-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_v22) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S48x256x7168 : Shape := ⟨3, ![48, 256, 7168]⟩
abbrev S48x256x3584 : Shape := ⟨3, ![48, 256, 3584]⟩
abbrev S48x256x56 : Shape := ⟨3, ![48, 256, 56]⟩
abbrev S48x7168x64 : Shape := ⟨3, ![48, 7168, 64]⟩
abbrev S48x56x256 : Shape := ⟨3, ![48, 56, 256]⟩
abbrev S48x64x7168 : Shape := ⟨3, ![48, 64, 7168]⟩
abbrev S48x64x256 : Shape := ⟨3, ![48, 64, 256]⟩
abbrev S1x256x7168 : Shape := ⟨3, ![1, 256, 7168]⟩
abbrev S1x256x3584 : Shape := ⟨3, ![1, 256, 3584]⟩
abbrev S1x56x256 : Shape := ⟨3, ![1, 56, 256]⟩
abbrev S1x64x7168 : Shape := ⟨3, ![1, 64, 7168]⟩
abbrev S1x64x256 : Shape := ⟨3, ![1, 64, 256]⟩
abbrev S7168x256 : Shape := ⟨2, ![7168, 256]⟩
abbrev S64x256 : Shape := ⟨2, ![64, 256]⟩
abbrev S1x256x256 : Shape := ⟨3, ![1, 256, 256]⟩
abbrev S256x256 : Shape := ⟨2, ![256, 256]⟩
abbrev S1x256x128 : Shape := ⟨3, ![1, 256, 128]⟩
abbrev S256x128 : Shape := ⟨2, ![256, 128]⟩
abbrev S128x256 : Shape := ⟨2, ![128, 256]⟩
abbrev S128x1x256 : Shape := ⟨3, ![128, 1, 256]⟩
abbrev S128x2x256 : Shape := ⟨3, ![128, 2, 256]⟩
abbrev S1x1x256 : Shape := ⟨3, ![1, 1, 256]⟩
abbrev S1x256 : Shape := ⟨2, ![1, 256]⟩
abbrev S48x256x64 : Shape := ⟨3, ![48, 256, 64]⟩

abbrev nBuf : Space → Nat
  | .hbm => 12
  | .vmem => 16
  | .smem => 0
  | _ => 0

abbrev bufTy : (tb : Table) → Fin (tcTables nBuf tb) → BufTy
  | .hbm, ⟨0, _⟩ => ⟨S48x256x7168, .bf16⟩
  | .hbm, ⟨1, _⟩ => ⟨S48x256x3584, .i8⟩
  | .hbm, ⟨2, _⟩ => ⟨S48x256x56, .f32⟩
  | .hbm, ⟨3, _⟩ => ⟨S48x7168x64, .bf16⟩
  | .hbm, ⟨4, _⟩ => ⟨S48x56x256, .f32⟩
  | .hbm, ⟨5, _⟩ => ⟨S48x64x7168, .bf16⟩
  | .hbm, ⟨6, _⟩ => ⟨S48x64x256, .f32⟩
  | .hbm, ⟨7, _⟩ => ⟨S48x64x7168, .f32⟩
  | .hbm, ⟨8, _⟩ => ⟨S48x64x256, .f32⟩
  | .hbm, ⟨9, _⟩ => ⟨S48x256x64, .f32⟩
  | .hbm, ⟨10, _⟩ => ⟨S48x7168x64, .f32⟩
  | .hbm, ⟨11, _⟩ => ⟨S48x256x64, .f32⟩
  | .local _ .vmem, ⟨0, _⟩ => ⟨S1x256x7168, .bf16⟩
  | .local _ .vmem, ⟨1, _⟩ => ⟨S1x256x7168, .bf16⟩
  | .local _ .vmem, ⟨2, _⟩ => ⟨S1x256x3584, .i8⟩
  | .local _ .vmem, ⟨3, _⟩ => ⟨S1x256x3584, .i8⟩
  | .local _ .vmem, ⟨4, _⟩ => ⟨S1x56x256, .f32⟩
  | .local _ .vmem, ⟨5, _⟩ => ⟨S1x56x256, .f32⟩
  | .local _ .vmem, ⟨6, _⟩ => ⟨S1x64x7168, .bf16⟩
  | .local _ .vmem, ⟨7, _⟩ => ⟨S1x64x7168, .bf16⟩
  | .local _ .vmem, ⟨8, _⟩ => ⟨S1x64x256, .f32⟩
  | .local _ .vmem, ⟨9, _⟩ => ⟨S1x64x256, .f32⟩
  | .local _ .vmem, ⟨10, _⟩ => ⟨S1x64x7168, .f32⟩
  | .local _ .vmem, ⟨11, _⟩ => ⟨S1x64x7168, .f32⟩
  | .local _ .vmem, ⟨12, _⟩ => ⟨S1x64x256, .f32⟩
  | .local _ .vmem, ⟨13, _⟩ => ⟨S1x64x256, .f32⟩
  | .local _ .vmem, ⟨14, _⟩ => ⟨S7168x256, .bf16⟩
  | .local _ .vmem, ⟨15, _⟩ => ⟨S64x256, .f32⟩
  | _, _ => ⟨S48x256x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![48], ![false]⟩

@[reducible] def k0_t1_loop : Scf.Loop 32 :=
  let c0_i32 : BitVec 32 := 0#32
  let c28_i32 : BitVec 32 := 28#32
  let v4 : BitVec 32 := Scalar.addi c0_i32 c28_i32
  let c1_i32 : BitVec 32 := 1#32
  ⟨c0_i32, v4, c1_i32⟩
def k0_off1 (k0_t1 : Fin k0_t1_loop.trips) : Fin 3 → Nat :=
  let c0_38 : Index := 0#32
  let c0_39 : Index := 0#32
  let c0_i32_37 : BitVec 32 := 0#32
  let c0_i32 : BitVec 32 := 0#32
  let c1_i32 : BitVec 32 := 1#32
  let arg10 : BitVec 32 := Scf.iv c0_i32 c1_i32 k0_t1
  let c1_i32_36 : BitVec 32 := 1#32
  let v30 : BitVec 32 := Scalar.muli arg10 c1_i32_36
  let v31 : BitVec 32 := Scalar.addi c0_i32_37 v30
  let c256_i32 : BitVec 32 := 256#32
  let v32 : BitVec 32 := Scalar.muli v31 c256_i32
  let v33 : Index := Scalar.indexCast v32
  ![0, 0, v33.toNat]
def k0_off2 (k0_t1 : Fin k0_t1_loop.trips) : Fin 3 → Nat :=
  let c0_40 : Index := 0#32
  let c0_41 : Index := 0#32
  let c0_i32_37 : BitVec 32 := 0#32
  let c0_i32 : BitVec 32 := 0#32
  let c1_i32 : BitVec 32 := 1#32
  let arg10 : BitVec 32 := Scf.iv c0_i32 c1_i32 k0_t1
  let c1_i32_36 : BitVec 32 := 1#32
  let v30 : BitVec 32 := Scalar.muli arg10 c1_i32_36
  let v31 : BitVec 32 := Scalar.addi c0_i32_37 v30
  let c128_i32 : BitVec 32 := 128#32
  let v37 : BitVec 32 := Scalar.muli v31 c128_i32
  let v38 : Index := Scalar.indexCast v37
  ![0, 0, v38.toNat]
def k0_off3 (k0_t1 : Fin k0_t1_loop.trips) (c0_i32_44 : BitVec 32) : Fin 3 → Nat :=
  let c0_45 : Index := 0#32
  let c0_i32_37 : BitVec 32 := 0#32
  let c0_i32 : BitVec 32 := 0#32
  let c1_i32 : BitVec 32 := 1#32
  let arg10 : BitVec 32 := Scf.iv c0_i32 c1_i32 k0_t1
  let c1_i32_36 : BitVec 32 := 1#32
  let v30 : BitVec 32 := Scalar.muli arg10 c1_i32_36
  let v31 : BitVec 32 := Scalar.addi c0_i32_37 v30
  let c2_i32 : BitVec 32 := 2#32
  let v56 : BitVec 32 := Scalar.muli v31 c2_i32
  let v57 : BitVec 32 := Scalar.addi v56 c0_i32_44
  let v58 : Index := Scalar.indexCast v57
  let c0_46 : Index := 0#32
  ![0, v58.toNat, 0]
def k0_off4 (k0_t1 : Fin k0_t1_loop.trips) : Fin 2 → Nat :=
  let c0_i32_37 : BitVec 32 := 0#32
  let c0_i32 : BitVec 32 := 0#32
  let c1_i32 : BitVec 32 := 1#32
  let arg10 : BitVec 32 := Scf.iv c0_i32 c1_i32 k0_t1
  let c1_i32_36 : BitVec 32 := 1#32
  let v30 : BitVec 32 := Scalar.muli arg10 c1_i32_36
  let v31 : BitVec 32 := Scalar.addi c0_i32_37 v30
  let c256_i32_51 : BitVec 32 := 256#32
  let v82 : BitVec 32 := Scalar.muli v31 c256_i32_51
  let v83 : Index := Scalar.indexCast v82
  let c0_52 : Index := 0#32
  ![v83.toNat, 0]
def k0_off5 (k0_t1 : Fin k0_t1_loop.trips) : Fin 3 → Nat :=
  let c0_56 : Index := 0#32
  let c0_57 : Index := 0#32
  let c0_i32_37 : BitVec 32 := 0#32
  let c0_i32 : BitVec 32 := 0#32
  let c1_i32 : BitVec 32 := 1#32
  let arg10 : BitVec 32 := Scf.iv c0_i32 c1_i32 k0_t1
  let c1_i32_36 : BitVec 32 := 1#32
  let v30 : BitVec 32 := Scalar.muli arg10 c1_i32_36
  let v31 : BitVec 32 := Scalar.addi c0_i32_37 v30
  let c256_i32_55 : BitVec 32 := 256#32
  let v88 : BitVec 32 := Scalar.muli v31 c256_i32_55
  let v89 : Index := Scalar.indexCast v88
  ![0, 0, v89.toNat]
@[reducible] def k0_t2_loop : Scf.Loop 32 :=
  let c0_i32_12 : BitVec 32 := 0#32
  let c28_i32_13 : BitVec 32 := 28#32
  let v15 : BitVec 32 := Scalar.addi c0_i32_12 c28_i32_13
  let c1_i32_14 : BitVec 32 := 1#32
  ⟨c0_i32_12, v15, c1_i32_14⟩
def k0_off6 (k0_t2 : Fin k0_t2_loop.trips) : Fin 2 → Nat :=
  let c0_i32_37 : BitVec 32 := 0#32
  let c0_i32_12 : BitVec 32 := 0#32
  let c1_i32_14 : BitVec 32 := 1#32
  let arg10 : BitVec 32 := Scf.iv c0_i32_12 c1_i32_14 k0_t2
  let c1_i32_36 : BitVec 32 := 1#32
  let v30 : BitVec 32 := Scalar.muli arg10 c1_i32_36
  let v31 : BitVec 32 := Scalar.addi c0_i32_37 v30
  let c256_i32 : BitVec 32 := 256#32
  let v32 : BitVec 32 := Scalar.muli v31 c256_i32
  let v33 : Index := Scalar.indexCast v32
  let c0_38 : Index := 0#32
  ![v33.toNat, 0]
@[reducible] def k0_t3_loop : Scf.Loop 32 :=
  let c0_i32_21 : BitVec 32 := 0#32
  let c28_i32_22 : BitVec 32 := 28#32
  let v22 : BitVec 32 := Scalar.addi c0_i32_21 c28_i32_22
  let c1_i32_23 : BitVec 32 := 1#32
  ⟨c0_i32_21, v22, c1_i32_23⟩
def k0_off7 (k0_t3 : Fin k0_t3_loop.trips) : Fin 2 → Nat :=
  let c0_i32_37 : BitVec 32 := 0#32
  let c0_i32_21 : BitVec 32 := 0#32
  let c1_i32_23 : BitVec 32 := 1#32
  let arg10 : BitVec 32 := Scf.iv c0_i32_21 c1_i32_23 k0_t3
  let c1_i32_36 : BitVec 32 := 1#32
  let v30 : BitVec 32 := Scalar.muli arg10 c1_i32_36
  let v31 : BitVec 32 := Scalar.addi c0_i32_37 v30
  let c256_i32 : BitVec 32 := 256#32
  let v32 : BitVec 32 := Scalar.muli v31 c256_i32
  let v33 : Index := Scalar.indexCast v32
  let c0_38 : Index := 0#32
  ![v33.toNat, 0]
@[reducible] def k0_t4_loop : Scf.Loop 32 :=
  let c0_i32_32 : BitVec 32 := 0#32
  let c28_i32_33 : BitVec 32 := 28#32
  let v29 : BitVec 32 := Scalar.addi c0_i32_32 c28_i32_33
  let c1_i32_34 : BitVec 32 := 1#32
  ⟨c0_i32_32, v29, c1_i32_34⟩
def k0_off8 (k0_t4 : Fin k0_t4_loop.trips) : Fin 2 → Nat :=
  let c0_i32_37 : BitVec 32 := 0#32
  let c0_i32_32 : BitVec 32 := 0#32
  let c1_i32_34 : BitVec 32 := 1#32
  let arg10 : BitVec 32 := Scf.iv c0_i32_32 c1_i32_34 k0_t4
  let c1_i32_36 : BitVec 32 := 1#32
  let v30 : BitVec 32 := Scalar.muli arg10 c1_i32_36
  let v31 : BitVec 32 := Scalar.addi c0_i32_37 v30
  let c256_i32 : BitVec 32 := 256#32
  let v32 : BitVec 32 := Scalar.muli v31 c256_i32
  let v33 : Index := Scalar.indexCast v32
  let c0_38 : Index := 0#32
  ![v33.toNat, 0]
def k0_off9 (k0_t4 : Fin k0_t4_loop.trips) : Fin 3 → Nat :=
  let c0_41 : Index := 0#32
  let c0_42 : Index := 0#32
  let c0_i32_37 : BitVec 32 := 0#32
  let c0_i32_32 : BitVec 32 := 0#32
  let c1_i32_34 : BitVec 32 := 1#32
  let arg10 : BitVec 32 := Scf.iv c0_i32_32 c1_i32_34 k0_t4
  let c1_i32_36 : BitVec 32 := 1#32
  let v30 : BitVec 32 := Scalar.muli arg10 c1_i32_36
  let v31 : BitVec 32 := Scalar.addi c0_i32_37 v30
  let c256_i32_40 : BitVec 32 := 256#32
  let v36 : BitVec 32 := Scalar.muli v31 c256_i32_40
  let v37 : Index := Scalar.indexCast v36
  ![0, 0, v37.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x3584 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x56x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x7168 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x7168 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S48x256x7168 : Shape := ⟨3, ![48, 256, 7168]⟩
abbrev S48x256x3584 : Shape := ⟨3, ![48, 256, 3584]⟩
abbrev S48x256x56 : Shape := ⟨3, ![48, 256, 56]⟩
abbrev S48x7168x64 : Shape := ⟨3, ![48, 7168, 64]⟩
abbrev S_ : Shape := ⟨0, ![]⟩
abbrev S48x256x3584x1 : Shape := ⟨4, ![48, 256, 3584, 1]⟩
abbrev S48x256x3584x2 : Shape := ⟨4, ![48, 256, 3584, 2]⟩
abbrev S48x256x56x128 : Shape := ⟨4, ![48, 256, 56, 128]⟩
abbrev S48x256x56x1 : Shape := ⟨4, ![48, 256, 56, 1]⟩
abbrev S48x256x64 : Shape := ⟨3, ![48, 256, 64]⟩

abbrev nBuf : Space → Nat
  | .hbm => 41
  | .vmem => 0
  | .smem => 0
  | _ => 0

abbrev bufTy : (tb : Table) → Fin (tcTables nBuf tb) → BufTy
  | .hbm, ⟨0, _⟩ => ⟨S48x256x7168, .bf16⟩
  | .hbm, ⟨1, _⟩ => ⟨S48x256x3584, .i8⟩
  | .hbm, ⟨2, _⟩ => ⟨S48x256x56, .f32⟩
  | .hbm, ⟨3, _⟩ => ⟨S48x7168x64, .bf16⟩
  | .hbm, ⟨4, _⟩ => ⟨S48x256x3584, .i32⟩
  | .hbm, ⟨5, _⟩ => ⟨S_, .i32⟩
  | .hbm, ⟨6, _⟩ => ⟨S48x256x3584, .i32⟩
  | .hbm, ⟨7, _⟩ => ⟨S48x256x3584, .i32⟩
  | .hbm, ⟨8, _⟩ => ⟨S_, .i32⟩
  | .hbm, ⟨9, _⟩ => ⟨S48x256x3584, .i32⟩
  | .hbm, ⟨10, _⟩ => ⟨S48x256x3584, .i32⟩
  | .hbm, ⟨11, _⟩ => ⟨S_, .i32⟩
  | .hbm, ⟨12, _⟩ => ⟨S48x256x3584, .i32⟩
  | .hbm, ⟨13, _⟩ => ⟨S48x256x3584, .i32⟩
  | .hbm, ⟨14, _⟩ => ⟨S_, .i32⟩
  | .hbm, ⟨15, _⟩ => ⟨S48x256x3584, .i32⟩
  | .hbm, ⟨16, _⟩ => ⟨S48x256x3584, .i32⟩
  | .hbm, ⟨17, _⟩ => ⟨S48x256x3584x1, .i32⟩
  | .hbm, ⟨18, _⟩ => ⟨S48x256x3584x1, .i32⟩
  | .hbm, ⟨19, _⟩ => ⟨S48x256x3584x2, .i32⟩
  | .hbm, ⟨20, _⟩ => ⟨S48x256x56x128, .i32⟩
  | .hbm, ⟨21, _⟩ => ⟨S48x256x7168, .f32⟩
  | .hbm, ⟨22, _⟩ => ⟨S48x256x56x128, .f32⟩
  | .hbm, ⟨23, _⟩ => ⟨S48x256x56x128, .f32⟩
  | .hbm, ⟨24, _⟩ => ⟨S48x256x56x1, .f32⟩
  | .hbm, ⟨25, _⟩ => ⟨S48x256x56x128, .f32⟩
  | .hbm, ⟨26, _⟩ => ⟨S48x256x56x128, .f32⟩
  | .hbm, ⟨27, _⟩ => ⟨S48x256x56x128, .f32⟩
  | .hbm, ⟨28, _⟩ => ⟨S48x256x56x128, .bf16⟩
  | .hbm, ⟨29, _⟩ => ⟨S48x256x7168, .bf16⟩
  | .hbm, ⟨30, _⟩ => ⟨S48x256x64, .f32⟩
  | .hbm, ⟨31, _⟩ => ⟨S48x256x64, .bf16⟩
  | .hbm, ⟨32, _⟩ => ⟨S48x7168x64, .f32⟩
  | .hbm, ⟨33, _⟩ => ⟨S48x7168x64, .bf16⟩
  | .hbm, ⟨34, _⟩ => ⟨S48x256x64, .f32⟩
  | .hbm, ⟨35, _⟩ => ⟨S48x256x64, .bf16⟩
  | .hbm, ⟨36, _⟩ => ⟨S48x7168x64, .f32⟩
  | .hbm, ⟨37, _⟩ => ⟨S48x7168x64, .bf16⟩
  | .hbm, ⟨38, _⟩ => ⟨S48x256x64, .f32⟩
  | .hbm, ⟨39, _⟩ => ⟨S48x256x64, .bf16⟩
  | .hbm, ⟨40, _⟩ => ⟨S48x7168x64, .f32⟩
  | _, _ => ⟨S48x256x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_v6 : Ref sig .tc := ⟨.hbm, 13, rfl⟩
abbrev main_c_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩

abbrev nD : Nat := 1
abbrev τ : Topo := Topo.v7x

variable {F : FTy → Type} [FloatOps F]
-- ==== Proof.Steps.lean ====
/- The values the kernel's loops compute, as plain functions of the four input blocks of one grid point: the tiles it
   loads, the tile of the error matrix it stores, the running sums it keeps, and the three blocks it leaves. -/
module

public import proofs.«01_k».proof.Proof.Gen.KernelIdeal.Skeleton
public import Idealize.ShloMosaic.Lib.VecWindow
public import Idealize.ShloMosaic.Lib.Pointwise

@[expose] public section

set_option maxRecDepth 16384

noncomputable section

namespace Cert.KernelIdeal.Steps

open Idealize.ShloMosaic Cert.KernelIdeal.Gen

variable {F : FTy → Type} [FloatOps F]

/-- The number `n` as a column of a row of 7168. -/
abbrev col (n : ℕ) : Fin 7168 := ⟨n % 7168, Nat.mod_lt _ (by decide)⟩
/-- The number `n` as a column of a row of 3584. -/
abbrev byteCol (n : ℕ) : Fin 3584 := ⟨n % 3584, Nat.mod_lt _ (by decide)⟩
/-- The number `n` as one of 56 scale groups. -/
abbrev grp (n : ℕ) : Fin 56 := ⟨n % 56, Nat.mod_lt _ (by decide)⟩

/-- Columns `256 k` to `256 k + 255` of the weight block. -/
def wTile (x : Vec F S1x256x7168 .bf16) (k : ℕ) : Vec F S1x256x256 .bf16 := fun y => x (ix3 (0 : Fin 1) (y 1) (col (256 * k + (y 2).val)))
/-- Columns `128 k` to `128 k + 127` of the block of packed codes. -/
def cTile (x : Vec F S1x256x3584 .i8) (k : ℕ) : Vec F S1x256x128 .i8 := fun y => x (ix3 (0 : Fin 1) (y 1) (byteCol (128 * k + (y 2).val)))
/-- Row `g` of the block of scales. -/
def sRow (x : Vec F S1x56x256 .f32) (g : ℕ) : Vec F S1x1x256 .f32 := fun y => x (ix3 (0 : Fin 1) (grp g) (y 2))
/-- Columns `256 k` to `256 k + 255` of the block of test vectors. -/
def oTile (x : Vec F S1x64x7168 .bf16) (k : ℕ) : Vec F S1x64x256 .bf16 := fun y => x (ix3 (0 : Fin 1) (y 1) (col (256 * k + (y 2).val)))

/-- Rows `256 k` to `256 k + 255` of the transposed error matrix: what trip `k` of the first loop stores. -/
def tileE (x0 : Vec F S1x256x7168 .bf16) (x1 : Vec F S1x256x3584 .i8) (x2 : Vec F S1x56x256 .f32) (k : ℕ) : Vec F S256x256 .bf16 :=
  k0_pay8 (k0_pay3 (wTile x0 k)) (k0_pay4 (cTile x1 k)) (k0_pay5 (wTile x0 k) (cTile x1 k) (sRow x2 (2 * k))) (sRow x2 (2 * k + 1))

/-- The transposed error matrix whole. -/
def bufE (x0 : Vec F S1x256x7168 .bf16) (x1 : Vec F S1x256x3584 .i8) (x2 : Vec F S1x56x256 .f32) : Vec F S7168x256 .bf16 :=
  fun y => tileE x0 x1 x2 ((y 0).val / 256) (ix2 (⟨(y 0).val % 256, Nat.mod_lt _ (by decide)⟩ : Fin 256) (y 1))

/-- Rows `256 k` to `256 k + 255` of a buffer of 7168 rows. -/
def rows (x : Vec F S7168x256 .bf16) (k : ℕ) : Vec F S256x256 .bf16 := fun y => x (ix2 (col (256 * k + (y 0).val)) (y 1))

/-- The running sum of the first loop before trip `k`. -/
def acc1 (x0 : Vec F S1x256x7168 .bf16) (x1 : Vec F S1x256x3584 .i8) (x2 : Vec F S1x56x256 .f32) (x3 : Vec F S1x64x7168 .bf16) : ℕ → Vec F S64x256 .f32
  | 0 => k0_pay6 (F := F)
  | k + 1 => k0_pay9 (k0_pay3 (wTile x0 k)) (k0_pay4 (cTile x1 k)) (k0_pay5 (wTile x0 k) (cTile x1 k) (sRow x2 (2 * k))) (sRow x2 (2 * k + 1))
      (acc1 x0 x1 x2 x3 k) (oTile x3 k)

/-- The running sum of the second loop before trip `k`, from the vectors `v` it starts from and the error matrix `e`. -/
def acc2 (v : Vec F S64x256 .f32) (e : Vec F S7168x256 .bf16) : ℕ → Vec F S64x256 .f32
  | 0 => k0_pay11 (F := F)
  | k + 1 => k0_pay12 v (rows e k) (acc2 v e k)

/-- The running sum of the third loop before trip `k`. -/
def acc3 (v : Vec F S64x256 .f32) (e : Vec F S7168x256 .bf16) : ℕ → Vec F S64x256 .f32
  | 0 => k0_pay13 (F := F)
  | k + 1 => k0_pay14 v (rows e k) (acc3 v e k)

/-- The whole block the last loop leaves: its tile `k` is the product of the vectors `v` with the rows of tile `k`. -/
def outZ (v : Vec F S64x256 .f32) (e : Vec F S7168x256 .bf16) : Vec F S1x64x7168 .f32 :=
  fun y => k0_pay2 v (rows e ((y 2).val / 256)) (ix3 (0 : Fin 1) (y 1) (⟨(y 2).val % 256, Nat.mod_lt _ (by decide)⟩ : Fin 256))

/-- The first product, `omega` transposed times the error matrix. -/
def valY0 (x0 : Vec F S1x256x7168 .bf16) (x1 : Vec F S1x256x3584 .i8) (x2 : Vec F S1x56x256 .f32) (x3 : Vec F S1x64x7168 .bf16) : Vec F S64x256 .f32 :=
  acc1 x0 x1 x2 x3 28
/-- The vectors after one power step. -/
def valY1 (x0 : Vec F S1x256x7168 .bf16) (x1 : Vec F S1x256x3584 .i8) (x2 : Vec F S1x56x256 .f32) (x3 : Vec F S1x64x7168 .bf16) : Vec F S64x256 .f32 :=
  acc2 (valY0 x0 x1 x2 x3) (bufE x0 x1 x2) 28
/-- The vectors after two power steps. -/
def valY2 (x0 : Vec F S1x256x7168 .bf16) (x1 : Vec F S1x256x3584 .i8) (x2 : Vec F S1x56x256 .f32) (x3 : Vec F S1x64x7168 .bf16) : Vec F S64x256 .f32 :=
  acc3 (valY1 x0 x1 x2 x3) (bufE x0 x1 x2) 28

/-- What the kernel leaves in its first output block. -/
def blkY (x0 : Vec F S1x256x7168 .bf16) (x1 : Vec F S1x256x3584 .i8) (x2 : Vec F S1x56x256 .f32) (x3 : Vec F S1x64x7168 .bf16) : Vec F S1x64x256 .f32 :=
  k0_pay1 (valY2 x0 x1 x2 x3)
/-- What the kernel leaves in its second output block. -/
def blkZ (x0 : Vec F S1x256x7168 .bf16) (x1 : Vec F S1x256x3584 .i8) (x2 : Vec F S1x56x256 .f32) (x3 : Vec F S1x64x7168 .bf16) : Vec F S1x64x7168 .f32 :=
  outZ (valY2 x0 x1 x2 x3) (bufE x0 x1 x2)
/-- What the kernel leaves in its third output block. -/
def blkY0 (x0 : Vec F S1x256x7168 .bf16) (x1 : Vec F S1x256x3584 .i8) (x2 : Vec F S1x56x256 .f32) (x3 : Vec F S1x64x7168 .bf16) : Vec F S1x64x256 .f32 :=
  k0_pay10 (valY0 x0 x1 x2 x3)

/-! ## Loads and stores by these values -/

variable {sig : RefSig} {κ : Kind} {sp : Space}

omit [FloatOps F] in
/-- A load of 256 columns of a weight block. -/
theorem load_wTile (v : View sig κ sp S1x256x7168 .bf16) (f : v.ty.Contents (Elt F)) (x : Vec F S1x256x7168 .bf16) (hf : v.read (Elt F) f = x) (off : Fin 3 → ℕ) (k : ℕ)
    (inb : ∀ a, off a + S1x256x256.size a ≤ S1x256x7168.size a) (h : off = ![0, 0, 256 * k]) (hk : k < 28) :
    v.readAt (Elt F) (Rect.unit (s := S1x256x7168) off S1x256x256.size inb).toLoadRect f = wTile x k := by
  subst h
  rw [View.readAt_unit v f inb rfl inb, hf]
  funext y
  refine congrArg x (funext fun a => Fin.ext ?_)
  have h2 : (y 2).val < 256 := (y 2).isLt
  fin_cases a
  · show 0 + 1 * (y 0).val = 0; have : (y 0).val < 1 := (y 0).isLt; omega
  · show 0 + 1 * (y 1).val = (y 1).val; omega
  · show 256 * k + 1 * (y 2).val = (256 * k + (y 2).val) % 7168; omega

omit [FloatOps F] in
/-- A load of 128 columns of a block of packed codes. -/
theorem load_cTile (v : View sig κ sp S1x256x3584 .i8) (f : v.ty.Contents (Elt F)) (x : Vec F S1x256x3584 .i8) (hf : v.read (Elt F) f = x) (off : Fin 3 → ℕ) (k : ℕ)
    (inb : ∀ a, off a + S1x256x128.size a ≤ S1x256x3584.size a) (h : off = ![0, 0, 128 * k]) (hk : k < 28) :
    v.readAt (Elt F) (Rect.unit (s := S1x256x3584) off S1x256x128.size inb).toLoadRect f = cTile x k := by
  subst h
  rw [View.readAt_unit v f inb rfl inb, hf]
  funext y
  refine congrArg x (funext fun a => Fin.ext ?_)
  have h2 : (y 2).val < 128 := (y 2).isLt
  fin_cases a
  · show 0 + 1 * (y 0).val = 0; have : (y 0).val < 1 := (y 0).isLt; omega
  · show 0 + 1 * (y 1).val = (y 1).val; omega
  · show 128 * k + 1 * (y 2).val = (128 * k + (y 2).val) % 3584; omega

omit [FloatOps F] in
/-- A load of one row of a block of scales. -/
theorem load_sRow (v : View sig κ sp S1x56x256 .f32) (f : v.ty.Contents (Elt F)) (x : Vec F S1x56x256 .f32) (hf : v.read (Elt F) f = x) (off : Fin 3 → ℕ) (g : ℕ)
    (inb : ∀ a, off a + S1x1x256.size a ≤ S1x56x256.size a) (h : off = ![0, g, 0]) (hg : g < 56) :
    v.readAt (Elt F) (Rect.unit (s := S1x56x256) off S1x1x256.size inb).toLoadRect f = sRow x g := by
  subst h
  rw [View.readAt_unit v f inb rfl inb, hf]
  funext y
  refine congrArg x (funext fun a => Fin.ext ?_)
  fin_cases a
  · show 0 + 1 * (y 0).val = 0; have : (y 0).val < 1 := (y 0).isLt; omega
  · show g + 1 * (y 1).val = g % 56; have : (y 1).val < 1 := (y 1).isLt; omega
  · show 0 + 1 * (y 2).val = (y 2).val; omega

omit [FloatOps F] in
/-- A load of 256 columns of a block of test vectors. -/
theorem load_oTile (v : View sig κ sp S1x64x7168 .bf16) (f : v.ty.Contents (Elt F)) (x : Vec F S1x64x7168 .bf16) (hf : v.read (Elt F) f = x) (off : Fin 3 → ℕ) (k : ℕ)
    (inb : ∀ a, off a + S1x64x256.size a ≤ S1x64x7168.size a) (h : off = ![0, 0, 256 * k]) (hk : k < 28) :
    v.readAt (Elt F) (Rect.unit (s := S1x64x7168) off S1x64x256.size inb).toLoadRect f = oTile x k := by
  subst h
  rw [View.readAt_unit v f inb rfl inb, hf]
  funext y
  refine congrArg x (funext fun a => Fin.ext ?_)
  have h2 : (y 2).val < 256 := (y 2).isLt
  fin_cases a
  · show 0 + 1 * (y 0).val = 0; have : (y 0).val < 1 := (y 0).isLt; omega
  · show 0 + 1 * (y 1).val = (y 1).val; omega
  · show 256 * k + 1 * (y 2).val = (256 * k + (y 2).val) % 7168; omega

omit [FloatOps F] in
/-- A load of 256 rows of the error matrix. -/
theorem load_rows (v : View sig κ sp S7168x256 .bf16) (f : v.ty.Contents (Elt F)) (x : Vec F S7168x256 .bf16) (hf : v.read (Elt F) f = x) (off : Fin 2 → ℕ) (k : ℕ)
    (inb : ∀ a, off a + S256x256.size a ≤ S7168x256.size a) (h : off = ![256 * k, 0]) (hk : k < 28) :
    v.readAt (Elt F) (Rect.unit (s := S7168x256) off S256x256.size inb).toLoadRect f = rows x k := by
  subst h
  rw [View.readAt_unit v f inb rfl inb, hf]
  funext y
  refine congrArg x (funext fun a => Fin.ext ?_)
  have h2 : (y 0).val < 256 := (y 0).isLt
  fin_cases a
  · show 256 * k + 1 * (y 0).val = (256 * k + (y 0).val) % 7168; omega
  · show 0 + 1 * (y 1).val = (y 1).val; omega

omit [FloatOps F] in
/-- Storing tile `k` of `G` extends the rows on which the buffer is `G`: those before `256 k` become those before `256 (k + 1)`. -/
theorem store_rows (v : View sig κ sp S7168x256 .bf16) (f : v.ty.Contents (Elt F)) (G : Vec F S7168x256 .bf16) (w : Vec F S256x256 .bf16) (off : Fin 2 → ℕ) (k : ℕ)
    (inb : ∀ a, off a + S256x256.size a ≤ S7168x256.size a) (h : off = ![256 * k, 0])
    (hw : ∀ (y : S7168x256.Idx), (y 0).val / 256 = k → G y = w (ix2 (⟨(y 0).val % 256, Nat.mod_lt _ (by decide)⟩ : Fin 256) (y 1)))
    (hf : ∀ y : S7168x256.Idx, (y 0).val < 256 * k → v.read (Elt F) f y = G y) (y : S7168x256.Idx) (hy : (y 0).val < 256 * (k + 1)) :
    v.read (Elt F) (v.writes (Elt F) f [⟨Rect.unit (s := S7168x256) off S256x256.size inb, w⟩]) y = G y := by
  rw [View.read_writes_cons_put v f inb w [] h]
  have h1 : (y 1).val < 256 := (y 1).isLt
  unfold VecWindow.put
  by_cases hm : ∀ a : Fin 2, (![256 * k, 0] : Fin 2 → ℕ) a ≤ (y a).val ∧ (y a).val < (![256 * k, 0] : Fin 2 → ℕ) a + S256x256.size a
  · rw [dif_pos hm, hw y (by have h0 : 256 * k ≤ (y 0).val ∧ (y 0).val < 256 * k + 256 := hm 0; omega)]
    refine congrArg w (funext fun a => Fin.ext ?_)
    fin_cases a
    · show (y 0).val - 256 * k = (y 0).val % 256
      have h0 : 256 * k ≤ (y 0).val ∧ (y 0).val < 256 * k + 256 := hm 0; omega
    · show (y 1).val - 0 = (y 1).val; omega
  · rw [dif_neg hm, View.writes_nil]
    refine hf y ?_
    by_contra hc
    refine hm fun a => ?_
    fin_cases a
    · show 256 * k ≤ (y 0).val ∧ (y 0).val < 256 * k + 256; omega
    · show 0 ≤ (y 1).val ∧ (y 1).val < 0 + 256; omega

omit [FloatOps F] in
/-- Storing tile `k` of `G` extends the columns on which the buffer is `G`: those before `256 k` become those before `256 (k + 1)`. -/
theorem store_cols (v : View sig κ sp S1x64x7168 .f32) (f : v.ty.Contents (Elt F)) (G : Vec F S1x64x7168 .f32) (w : Vec F S1x64x256 .f32) (off : Fin 3 → ℕ) (k : ℕ)
    (inb : ∀ a, off a + S1x64x256.size a ≤ S1x64x7168.size a) (h : off = ![0, 0, 256 * k])
    (hw : ∀ (y : S1x64x7168.Idx), (y 2).val / 256 = k → G y = w (ix3 (0 : Fin 1) (y 1) (⟨(y 2).val % 256, Nat.mod_lt _ (by decide)⟩ : Fin 256)))
    (hf : ∀ y : S1x64x7168.Idx, (y 2).val < 256 * k → v.read (Elt F) f y = G y) (y : S1x64x7168.Idx) (hy : (y 2).val < 256 * (k + 1)) :
    v.read (Elt F) (v.writes (Elt F) f [⟨Rect.unit (s := S1x64x7168) off S1x64x256.size inb, w⟩]) y = G y := by
  rw [View.read_writes_cons_put v f inb w [] h]
  have h0 : (y 0).val < 1 := (y 0).isLt
  have h1 : (y 1).val < 64 := (y 1).isLt
  unfold VecWindow.put
  by_cases hm : ∀ a : Fin 3, (![0, 0, 256 * k] : Fin 3 → ℕ) a ≤ (y a).val ∧ (y a).val < (![0, 0, 256 * k] : Fin 3 → ℕ) a + S1x64x256.size a
  · rw [dif_pos hm, hw y (by have h2 : 256 * k ≤ (y 2).val ∧ (y 2).val < 256 * k + 256 := hm 2; omega)]
    refine congrArg w (funext fun a => Fin.ext ?_)
    fin_cases a
    · show (y 0).val - 0 = 0; omega
    · show (y 1).val - 0 = (y 1).val; omega
    · show (y 2).val - 256 * k = (y 2).val % 256
      have h2 : 256 * k ≤ (y 2).val ∧ (y 2).val < 256 * k + 256 := hm 2; omega
  · rw [dif_neg hm, View.writes_nil]
    refine hf y ?_
    by_contra hc
    refine hm fun a => ?_
    fin_cases a
    · show 0 ≤ (y 0).val ∧ (y 0).val < 0 + 1; omega
    · show 0 ≤ (y 1).val ∧ (y 1).val < 0 + 64; omega
    · show 256 * k ≤ (y 2).val ∧ (y 2).val < 256 * k + 256; omega

end Cert.KernelIdeal.Steps

end
-- ==== Proof.Body.lean ====
/- The kernel's body at one grid point: each of its four counted loops by an invariant over the values of Steps.lean, and the
   whole body, which turns the four input blocks into the three output blocks `blkY`, `blkZ`, `blkY0`. -/
module

public import proofs.«01_k».proof.Proof.Steps
public import proofs.«01_k».proof.Proof.Gen.KernelIdeal.Frame
public import Idealize.ShloMosaic.Lib.Pipeline.TableIdle

@[expose] public section

set_option maxRecDepth 16384

noncomputable section

namespace Cert.KernelIdeal.Steps

open Idealize.ShloMosaic Idealize.ShloMosaic.TcCoe Idealize.ShloMosaic.Tactic Cert.KernelIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Before trip `k` of the first loop: the inputs as they were, the first `256 k` rows of the error matrix in the scratch, the
    running sum at `acc1 k`. -/
abbrev inv1 (c : Dev nD) (arg1 : Memref sig .tc .vmem S1x256x7168 .bf16) (arg2 : Memref sig .tc .vmem S1x256x3584 .i8) (arg3 : Memref sig .tc .vmem S1x56x256 .f32) (arg4 : Memref sig .tc .vmem S1x64x7168 .bf16) (arg8 : Memref sig .tc .vmem S7168x256 .bf16) (arg9 : Memref sig .tc .vmem S64x256 .f32)
    (x0 : Vec F S1x256x7168 .bf16) (x1 : Vec F S1x256x3584 .i8) (x2 : Vec F S1x56x256 .f32) (x3 : Vec F S1x64x7168 .bf16) (k : ℕ) (_ : PUnit) : sProp 𝕄 :=
  iprop((arg1.view.loc (c : Thread nD τ) ↦[arg1.view.set]{fullShare} arg1.view.rep x0) ∗ (arg2.view.loc (c : Thread nD τ) ↦[arg2.view.set]{fullShare} arg2.view.rep x1) ∗ (arg3.view.loc (c : Thread nD τ) ↦[arg3.view.set]{fullShare} arg3.view.rep x2) ∗ (arg4.view.loc (c : Thread nD τ) ↦[arg4.view.set]{fullShare} arg4.view.rep x3)
    ∗ (∃ f, (arg8.view.loc (c : Thread nD τ) ↦[arg8.view.set]{fullShare} f) ∗ ⌜∀ y : S7168x256.Idx, (y 0).val < 256 * k → arg8.view.read (Elt F) f y = bufE x0 x1 x2 y⌝)
    ∗ (∃ f, (arg9.view.loc (c : Thread nD τ) ↦[arg9.view.set]{fullShare} f) ∗ ⌜arg9.view.read (Elt F) f = acc1 x0 x1 x2 x3 k⌝))

/-- Before trip `k` of a later loop: the error matrix `e` in the scratch, the running sum at `a k`. -/
abbrev inv2 (c : Dev nD) (arg8 : Memref sig .tc .vmem S7168x256 .bf16) (arg9 : Memref sig .tc .vmem S64x256 .f32) (e : Vec F S7168x256 .bf16) (a : ℕ → Vec F S64x256 .f32) (k : ℕ) (_ : PUnit) : sProp 𝕄 :=
  iprop((arg8.view.loc (c : Thread nD τ) ↦[arg8.view.set]{fullShare} arg8.view.rep e) ∗ (∃ f, (arg9.view.loc (c : Thread nD τ) ↦[arg9.view.set]{fullShare} f) ∗ ⌜arg9.view.read (Elt F) f = a k⌝))

/-- Before trip `k` of the last loop: the error matrix `e` in the scratch, the first `256 k` columns of `g` in the output block. -/
abbrev inv4 (c : Dev nD) (arg8 : Memref sig .tc .vmem S7168x256 .bf16) (arg6 : Memref sig .tc .vmem S1x64x7168 .f32) (e : Vec F S7168x256 .bf16) (g : Vec F S1x64x7168 .f32) (k : ℕ) (_ : PUnit) : sProp 𝕄 :=
  iprop((arg8.view.loc (c : Thread nD τ) ↦[arg8.view.set]{fullShare} arg8.view.rep e) ∗ (∃ f, (arg6.view.loc (c : Thread nD τ) ↦[arg6.view.set]{fullShare} f) ∗ ⌜∀ y : S1x64x7168.Idx, (y 2).val < 256 * k → arg6.view.read (Elt F) f y = g y⌝))

set_option maxHeartbeats 1000000 in
/-- One trip of the first loop. -/
theorem trip1 (c : Dev nD) (E : Set ℕ) (i : grid0.Coords) (arg1 : Memref sig .tc .vmem S1x256x7168 .bf16) (harg1 : arg1.IsWhole) (arg2 : Memref sig .tc .vmem S1x256x3584 .i8) (harg2 : arg2.IsWhole) (arg3 : Memref sig .tc .vmem S1x56x256 .f32) (harg3 : arg3.IsWhole) (arg4 : Memref sig .tc .vmem S1x64x7168 .bf16) (harg4 : arg4.IsWhole) (arg5 : Memref sig .tc .vmem S1x64x256 .f32) (harg5 : arg5.IsWhole) (arg6 : Memref sig .tc .vmem S1x64x7168 .f32) (harg6 : arg6.IsWhole) (arg7 : Memref sig .tc .vmem S1x64x256 .f32) (harg7 : arg7.IsWhole) (arg8 : Memref sig .tc .vmem S7168x256 .bf16) (harg8 : arg8.IsWhole) (arg9 : Memref sig .tc .vmem S64x256 .f32) (harg9 : arg9.IsWhole)
    (x0 : Vec F S1x256x7168 .bf16) (x1 : Vec F S1x256x3584 .i8) (x2 : Vec F S1x56x256 .f32) (x3 : Vec F S1x64x7168 .bf16) (k : Fin k0_t1_loop.trips) (u : PUnit) :
    inv1 c arg1 arg2 arg3 arg4 arg8 arg9 x0 x1 x2 x3 k.val u
      ⊢ wp frame (wpE (defs₀ (F := F)) Variants.none (c : Thread nD τ) none) E (k0_t1_body (F := F) i arg1 harg1 arg2 harg2 arg3 harg3 arg4 harg4 arg5 harg5 arg6 harg6 arg7 harg7 arg8 harg8 arg9 harg9 k u)
          (inv1 c arg1 arg2 arg3 arg4 arg8 arg9 x0 x1 x2 x3 (k.val + 1)) := by
  have hk : k.val < 28 := Nat.lt_of_lt_of_le k.isLt k0_t1_abs.2.1
  unfold k0_t1_body
  iintro ⟨H1, H2, H3, H4, ⟨%f8, H8, %h8⟩, ⟨%f9, H9, %h9⟩⟩
  sl_exec
  have e1 := load_wTile arg1.view _ x0 (View.read_rep _ _) _ k.val (k0_off1_inb k) (k0_off1_eq k) hk
  have e2 := load_cTile arg2.view _ x1 (View.read_rep _ _) _ k.val (k0_off2_inb k) (k0_off2_eq k) hk
  have e3 := load_sRow arg3.view _ x2 (View.read_rep _ _) _ (2 * k.val) (k0_off3_inb k 0) (k0_off3_eq k 0) (by omega)
  have e3' := load_sRow arg3.view _ x2 (View.read_rep _ _) _ (2 * k.val + 1) (k0_off3_inb k 1) (k0_off3_eq k 1) (by omega)
  have e4 := load_oTile arg4.view _ x3 (View.read_rep _ _) _ k.val (k0_off5_inb k) (k0_off5_eq k) hk
  have r0 : trip1.sl.r arg1 x0 k = k0_pay3 (wTile x0 k) := by unfold trip1.sl.r; exact congrArg _ e1
  have r1 : trip1.sl.r_1 arg2 x1 k = k0_pay4 (cTile x1 k) := by unfold trip1.sl.r_1; exact congrArg _ e2
  have r2 : trip1.sl.r_2 arg1 arg2 arg3 x0 x1 x2 k = k0_pay5 (wTile x0 k) (cTile x1 k) (sRow x2 (2 * k.val)) := by
    unfold trip1.sl.r_2; rw [e1, e2]; exact congrArg _ e3
  sl_step
  isplitl [H1]; · iexact H1
  isplitl [H2]; · iexact H2
  isplitl [H3]; · iexact H3
  isplitl [H4]; · iexact H4
  isplitl [H8]
  · iexists _; isplitl [H8]; · iexact H8
    ipureintro
    rw [r0, r1, r2]
    refine store_rows _ _ _ _ _ k.val _ (k0_off4_eq k) (fun y hy => ?_) h8
    unfold bufE tileE
    rw [hy]
    exact congrArg (fun z => k0_pay8 _ _ _ z _) e3'.symm
  · iexists _; isplitl [H9]; · iexact H9
    ipureintro
    rw [r0, r1, r2, View.read_writes_full, View.readAt_full, h9]
    exact congrArg₂ (fun z w => k0_pay9 _ _ _ z _ w) e3' e4

set_option maxHeartbeats 1000000 in
/-- One trip of the second loop. -/
theorem trip2 (c : Dev nD) (E : Set ℕ) (i : grid0.Coords) (arg1 : Memref sig .tc .vmem S1x256x7168 .bf16) (harg1 : arg1.IsWhole) (arg2 : Memref sig .tc .vmem S1x256x3584 .i8) (harg2 : arg2.IsWhole) (arg3 : Memref sig .tc .vmem S1x56x256 .f32) (harg3 : arg3.IsWhole) (arg4 : Memref sig .tc .vmem S1x64x7168 .bf16) (harg4 : arg4.IsWhole) (arg5 : Memref sig .tc .vmem S1x64x256 .f32) (harg5 : arg5.IsWhole) (arg6 : Memref sig .tc .vmem S1x64x7168 .f32) (harg6 : arg6.IsWhole) (arg7 : Memref sig .tc .vmem S1x64x256 .f32) (harg7 : arg7.IsWhole) (arg8 : Memref sig .tc .vmem S7168x256 .bf16) (harg8 : arg8.IsWhole) (arg9 : Memref sig .tc .vmem S64x256 .f32) (harg9 : arg9.IsWhole)
    (e : Vec F S7168x256 .bf16) (v : Vec F S64x256 .f32) (k : Fin k0_t2_loop.trips) (u : PUnit) :
    inv2 c arg8 arg9 e (acc2 v e) k.val u
      ⊢ wp frame (wpE (defs₀ (F := F)) Variants.none (c : Thread nD τ) none) E (k0_t2_body (F := F) i arg1 harg1 arg2 harg2 arg3 harg3 arg4 harg4 arg5 harg5 arg6 harg6 arg7 harg7 arg8 harg8 arg9 harg9 v k u)
          (inv2 c arg8 arg9 e (acc2 v e) (k.val + 1)) := by
  have hk : k.val < 28 := Nat.lt_of_lt_of_le k.isLt k0_t2_abs.2.1
  unfold k0_t2_body
  iintro ⟨H8, ⟨%f9, H9, %h9⟩⟩
  sl_exec
  sl_step
  isplitl [H8]; · iexact H8
  iexists _; isplitl [H9]; · iexact H9
  ipureintro
  rw [View.read_writes_full, View.readAt_full, h9, load_rows _ _ e (View.read_rep _ _) _ k.val _ (k0_off6_eq k) hk]
  rfl

set_option maxHeartbeats 1000000 in
/-- One trip of the third loop. -/
theorem trip3 (c : Dev nD) (E : Set ℕ) (i : grid0.Coords) (arg1 : Memref sig .tc .vmem S1x256x7168 .bf16) (harg1 : arg1.IsWhole) (arg2 : Memref sig .tc .vmem S1x256x3584 .i8) (harg2 : arg2.IsWhole) (arg3 : Memref sig .tc .vmem S1x56x256 .f32) (harg3 : arg3.IsWhole) (arg4 : Memref sig .tc .vmem S1x64x7168 .bf16) (harg4 : arg4.IsWhole) (arg5 : Memref sig .tc .vmem S1x64x256 .f32) (harg5 : arg5.IsWhole) (arg6 : Memref sig .tc .vmem S1x64x7168 .f32) (harg6 : arg6.IsWhole) (arg7 : Memref sig .tc .vmem S1x64x256 .f32) (harg7 : arg7.IsWhole) (arg8 : Memref sig .tc .vmem S7168x256 .bf16) (harg8 : arg8.IsWhole) (arg9 : Memref sig .tc .vmem S64x256 .f32) (harg9 : arg9.IsWhole)
    (e : Vec F S7168x256 .bf16) (v : Vec F S64x256 .f32) (k : Fin k0_t3_loop.trips) (u : PUnit) :
    inv2 c arg8 arg9 e (acc3 v e) k.val u
      ⊢ wp frame (wpE (defs₀ (F := F)) Variants.none (c : Thread nD τ) none) E (k0_t3_body (F := F) i arg1 harg1 arg2 harg2 arg3 harg3 arg4 harg4 arg5 harg5 arg6 harg6 arg7 harg7 arg8 harg8 arg9 harg9 v k u)
          (inv2 c arg8 arg9 e (acc3 v e) (k.val + 1)) := by
  have hk : k.val < 28 := Nat.lt_of_lt_of_le k.isLt k0_t3_abs.2.1
  unfold k0_t3_body
  iintro ⟨H8, ⟨%f9, H9, %h9⟩⟩
  sl_exec
  sl_step
  isplitl [H8]; · iexact H8
  iexists _; isplitl [H9]; · iexact H9
  ipureintro
  rw [View.read_writes_full, View.readAt_full, h9, load_rows _ _ e (View.read_rep _ _) _ k.val _ (k0_off7_eq k) hk]
  rfl

set_option maxHeartbeats 1000000 in
/-- One trip of the last loop. -/
theorem trip4 (c : Dev nD) (E : Set ℕ) (i : grid0.Coords) (arg1 : Memref sig .tc .vmem S1x256x7168 .bf16) (harg1 : arg1.IsWhole) (arg2 : Memref sig .tc .vmem S1x256x3584 .i8) (harg2 : arg2.IsWhole) (arg3 : Memref sig .tc .vmem S1x56x256 .f32) (harg3 : arg3.IsWhole) (arg4 : Memref sig .tc .vmem S1x64x7168 .bf16) (harg4 : arg4.IsWhole) (arg5 : Memref sig .tc .vmem S1x64x256 .f32) (harg5 : arg5.IsWhole) (arg6 : Memref sig .tc .vmem S1x64x7168 .f32) (harg6 : arg6.IsWhole) (arg7 : Memref sig .tc .vmem S1x64x256 .f32) (harg7 : arg7.IsWhole) (arg8 : Memref sig .tc .vmem S7168x256 .bf16) (harg8 : arg8.IsWhole) (arg9 : Memref sig .tc .vmem S64x256 .f32) (harg9 : arg9.IsWhole)
    (e : Vec F S7168x256 .bf16) (v : Vec F S64x256 .f32) (k : Fin k0_t4_loop.trips) (u : PUnit) :
    inv4 c arg8 arg6 e (outZ v e) k.val u
      ⊢ wp frame (wpE (defs₀ (F := F)) Variants.none (c : Thread nD τ) none) E (k0_t4_body (F := F) i arg1 harg1 arg2 harg2 arg3 harg3 arg4 harg4 arg5 harg5 arg6 harg6 arg7 harg7 arg8 harg8 arg9 harg9 v k u)
          (inv4 c arg8 arg6 e (outZ v e) (k.val + 1)) := by
  have hk : k.val < 28 := Nat.lt_of_lt_of_le k.isLt k0_t4_abs.2.1
  unfold k0_t4_body
  iintro ⟨H8, ⟨%f6, H6, %h6⟩⟩
  sl_exec
  sl_step
  isplitl [H8]; · iexact H8
  iexists _; isplitl [H6]; · iexact H6
  ipureintro
  rw [load_rows _ _ e (View.read_rep _ _) _ k.val _ (k0_off8_eq k) hk]
  refine store_cols _ _ _ _ _ k.val _ (k0_off9_eq k) (fun y hy => ?_) h6
  unfold outZ
  rw [hy]

/-- The number of trips of each loop. -/
theorem trips1 : Scf.trips k0_t1_loop.lb k0_t1_loop.ub k0_t1_loop.st = 28 := by decide
theorem trips2 : Scf.trips k0_t2_loop.lb k0_t2_loop.ub k0_t2_loop.st = 28 := by decide
theorem trips3 : Scf.trips k0_t3_loop.lb k0_t3_loop.ub k0_t3_loop.st = 28 := by decide
theorem trips4 : Scf.trips k0_t4_loop.lb k0_t4_loop.ub k0_t4_loop.st = 28 := by decide

set_option maxHeartbeats 4000000 in
/-- The body at one grid point: the four inputs at `x0` … `x3` stay, the outputs end at `blkY`, `blkZ`, `blkY0` of them, the scratch at
    some contents. -/
theorem body_run (c : Dev nD) (i : grid0.Coords) (arg1 : Memref sig .tc .vmem S1x256x7168 .bf16) (harg1 : arg1.IsWhole) (arg2 : Memref sig .tc .vmem S1x256x3584 .i8) (harg2 : arg2.IsWhole) (arg3 : Memref sig .tc .vmem S1x56x256 .f32) (harg3 : arg3.IsWhole) (arg4 : Memref sig .tc .vmem S1x64x7168 .bf16) (harg4 : arg4.IsWhole) (arg5 : Memref sig .tc .vmem S1x64x256 .f32) (harg5 : arg5.IsWhole) (arg6 : Memref sig .tc .vmem S1x64x7168 .f32) (harg6 : arg6.IsWhole) (arg7 : Memref sig .tc .vmem S1x64x256 .f32) (harg7 : arg7.IsWhole) (arg8 : Memref sig .tc .vmem S7168x256 .bf16) (harg8 : arg8.IsWhole) (arg9 : Memref sig .tc .vmem S64x256 .f32) (harg9 : arg9.IsWhole)
    (x0 : Vec F S1x256x7168 .bf16) (x1 : Vec F S1x256x3584 .i8) (x2 : Vec F S1x56x256 .f32) (x3 : Vec F S1x64x7168 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (blkY x0 x1 x2 x3) ∗ owns (c : Thread nD τ) arg6 fullShare (blkZ x0 x1 x2 x3) ∗ owns (c : Thread nD τ) arg7 fullShare (blkY0 x0 x1 x2 x3) ∗ (∃ d, owns (c : Thread nD τ) arg8 fullShare d) ∗ (∃ d, owns (c : Thread nD τ) arg9 fullShare d)) -∗ K ⟨⟩))
      ⊢ wp frame (wpE (defs₀ (F := F)) Variants.none c none) E (cc0_residual_range_finder i arg1 harg1 arg2 harg2 arg3 harg3 arg4 harg4 arg5 harg5 arg6 harg6 arg7 harg7 arg8 harg8 arg9 harg9) K := by
  simp only [cc0_residual_range_finder_eq_skeleton]; unfold cc0_residual_range_finder_skel
  simp only [k0_part2_eq_skeleton]
  iintro ⟨H1, H2, H3, H4, ⟨%d5, H5⟩, ⟨%d6, H6⟩, ⟨%d7, H7⟩, ⟨%d8, H8⟩, ⟨%d9, H9⟩, Hk⟩
  ihave H1 := (rep_of_owns (c : Thread nD τ) arg1 fullShare x0) $$ H1
  ihave H2 := (rep_of_owns (c : Thread nD τ) arg2 fullShare x1) $$ H2
  ihave H3 := (rep_of_owns (c : Thread nD τ) arg3 fullShare x2) $$ H3
  ihave H4 := (rep_of_owns (c : Thread nD τ) arg4 fullShare x3) $$ H4
  ihave H5 := (rep_of_owns (c : Thread nD τ) arg5 fullShare d5) $$ H5
  ihave H6 := (rep_of_owns (c : Thread nD τ) arg6 fullShare d6) $$ H6
  ihave H7 := (rep_of_owns (c : Thread nD τ) arg7 fullShare d7) $$ H7
  ihave H8 := (rep_of_owns (c : Thread nD τ) arg8 fullShare d8) $$ H8
  ihave H9 := (rep_of_owns (c : Thread nD τ) arg9 fullShare d9) $$ H9
  sl_exec
  sl_for (inv1 c arg1 arg2 arg3 arg4 arg8 arg9 x0 x1 x2 x3) $$ [H1 H2 H3 H4 H8 H9]
  case region => exact fun k u => trip1 c E i arg1 harg1 arg2 harg2 arg3 harg3 arg4 harg4 arg5 harg5 arg6 harg6 arg7 harg7 arg8 harg8 arg9 harg9 x0 x1 x2 x3 k u
  · isplitl [H1]; · iexact H1
    isplitl [H2]; · iexact H2
    isplitl [H3]; · iexact H3
    isplitl [H4]; · iexact H4
    isplitl [H8]
    · iexists _; isplitl [H8]; · iexact H8
      ipureintro; intro y hy; omega
    · iexists _; isplitl [H9]; · iexact H9
      ipureintro; exact View.read_writes_full _ _ _ _ _
  iintro %_ ⟨H1, H2, H3, H4, ⟨%f8, H8, %h8⟩, ⟨%f9, H9, %h9⟩⟩
  rw [trips1] at h8 h9
  have h8' : arg8.view.read (Elt F) f8 = bufE x0 x1 x2 := funext fun y => h8 y (by have : (y 0).val < 7168 := (y 0).isLt; omega)
  ihave H8 := (pointsTo_rep_of_read (c : Thread nD τ) arg8 f8 fullShare (bufE x0 x1 x2) h8') $$ H8
  sl_exec
  have y0 : arg9.view.readAt (Elt F) (Rect.unit (s := S64x256) ![0, 0] S64x256.size inb_S64x256_S64x256_0_0).toLoadRect f9 = valY0 x0 x1 x2 x3 :=
    (View.readAt_full _ _ _).trans h9
  rw [y0]
  sl_for (inv2 c arg8 arg9 (bufE x0 x1 x2) (acc2 (valY0 x0 x1 x2 x3) (bufE x0 x1 x2))) $$ [H8 H9]
  case region => exact fun k u => trip2 c E i arg1 harg1 arg2 harg2 arg3 harg3 arg4 harg4 arg5 harg5 arg6 harg6 arg7 harg7 arg8 harg8 arg9 harg9 _ _ k u
  · isplitl [H8]; · iexact H8
    iexists _; isplitl [H9]; · iexact H9
    ipureintro; exact View.read_writes_full _ _ _ _ _
  iintro %_ ⟨H8, ⟨%g9, H9, %h9⟩⟩
  rw [trips2] at h9
  sl_exec
  have y1 : arg9.view.readAt (Elt F) (Rect.unit (s := S64x256) ![0, 0] S64x256.size inb_S64x256_S64x256_0_0).toLoadRect g9 = valY1 x0 x1 x2 x3 :=
    (View.readAt_full _ _ _).trans h9
  rw [y1]
  sl_for (inv2 c arg8 arg9 (bufE x0 x1 x2) (acc3 (valY1 x0 x1 x2 x3) (bufE x0 x1 x2))) $$ [H8 H9]
  case region => exact fun k u => trip3 c E i arg1 harg1 arg2 harg2 arg3 harg3 arg4 harg4 arg5 harg5 arg6 harg6 arg7 harg7 arg8 harg8 arg9 harg9 _ _ k u
  · isplitl [H8]; · iexact H8
    iexists _; isplitl [H9]; · iexact H9
    ipureintro; exact View.read_writes_full _ _ _ _ _
  iintro %_ ⟨H8, ⟨%p9, H9, %h9⟩⟩
  rw [trips3] at h9
  sl_exec
  have y2 : arg9.view.readAt (Elt F) (Rect.unit (s := S64x256) ![0, 0] S64x256.size inb_S64x256_S64x256_0_0).toLoadRect p9 = valY2 x0 x1 x2 x3 :=
    (View.readAt_full _ _ _).trans h9
  rw [y2]
  sl_for (inv4 c arg8 arg6 (bufE x0 x1 x2) (outZ (valY2 x0 x1 x2 x3) (bufE x0 x1 x2))) $$ [H8 H6]
  case region => exact fun k u => trip4 c E i arg1 harg1 arg2 harg2 arg3 harg3 arg4 harg4 arg5 harg5 arg6 harg6 arg7 harg7 arg8 harg8 arg9 harg9 _ _ k u
  · isplitl [H8]; · iexact H8
    iexists _; isplitl [H6]; · iexact H6
    ipureintro; intro y hy; omega
  iintro %_ ⟨H8, ⟨%f6, H6, %h6⟩⟩
  rw [trips4] at h6
  have h6' : arg6.view.read (Elt F) f6 = blkZ x0 x1 x2 x3 := funext fun y => h6 y (by have : (y 2).val < 7168 := (y 2).isLt; omega)
  sl_exec
  sl_step
  iapply Hk
  isplitl [H1]; · iapply (owns_of_rep (c : Thread nD τ) arg1 fullShare x0); iexact H1
  isplitl [H2]; · iapply (owns_of_rep (c : Thread nD τ) arg2 fullShare x1); iexact H2
  isplitl [H3]; · iapply (owns_of_rep (c : Thread nD τ) arg3 fullShare x2); iexact H3
  isplitl [H4]; · iapply (owns_of_rep (c : Thread nD τ) arg4 fullShare x3); iexact H4
  isplitl [H5]
  · unfold owns; iexists _; isplitr; swap; · iexact H5
    ipureintro; unfold body_run.sl.H5_1; rw [View.read_writes_full, y2]; rfl
  isplitl [H6]
  · unfold owns; iexists _; isplitr; swap; · iexact H6
    ipureintro; exact h6'
  isplitl [H7]
  · unfold owns; iexists _; isplitr; swap; · iexact H7
    ipureintro; unfold body_run.sl.H7_1; rw [View.read_writes_full, y0]; rfl
  isplitl [H8]; · iexists _; iapply (owns_of_rep (c : Thread nD τ) arg8 fullShare (bufE x0 x1 x2)); iexact H8
  unfold owns; iexists _, _; isplitr; swap; · iexact H9
  ipureintro; rfl

end Cert.KernelIdeal.Steps

end
-- ==== Proof.Run.lean ====
/- The run of the kernel: the proof data of its one region (each output block named as a function of the input blocks), the body
   at every grid point, and the execution of @main with what every buffer holds at its end. -/
module

public import proofs.«01_k».proof.Proof.Body
public import Idealize.ShloMosaic.Lib.Claim

@[expose] public section

set_option maxRecDepth 16384

noncomputable section

namespace Cert.KernelIdeal.Steps

open Idealize.ShloMosaic Idealize.ShloMosaic.TcCoe Idealize.ShloMosaic.Tactic Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each window's current staging buffer at point `t`. -/
abbrev ms0_0 (t : Fin cfg0.N) : Memref sig .tc .vmem S1x256x7168 .bf16 := win0_0.stage (cfg0.slots t 0)
abbrev ms0_1 (t : Fin cfg0.N) : Memref sig .tc .vmem S1x256x3584 .i8 := win0_1.stage (cfg0.slots t 1)
abbrev ms0_2 (t : Fin cfg0.N) : Memref sig .tc .vmem S1x56x256 .f32 := win0_2.stage (cfg0.slots t 2)
abbrev ms0_3 (t : Fin cfg0.N) : Memref sig .tc .vmem S1x64x7168 .bf16 := win0_3.stage (cfg0.slots t 3)
abbrev ms0_4 (t : Fin cfg0.N) : Memref sig .tc .vmem S1x64x256 .f32 := win0_4.stage (cfg0.slots t 4)
abbrev ms0_5 (t : Fin cfg0.N) : Memref sig .tc .vmem S1x64x7168 .f32 := win0_5.stage (cfg0.slots t 5)
abbrev ms0_6 (t : Fin cfg0.N) : Memref sig .tc .vmem S1x64x256 .f32 := win0_6.stage (cfg0.slots t 6)
/-- The scratch operands: whole scoped buffers of the kernel's own, passed beside the windows. -/
abbrev scM0_0 : Memref sig .tc .vmem S7168x256 .bf16 := Memref.whole cc0_scratch0
abbrev scM0_1 : Memref sig .tc .vmem S64x256 .f32 := Memref.whole cc0_scratch1

/-- The region's invariant: the two scratch buffers at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- The proof data of the region on core `c`: the arrays as the region finds them; after the body at point `t` each input's buffer
    at its block and each output's at what the body computes from the input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => blkY (iblk m c 0 t) (iblk m c 1 t) (iblk m c 2 t) (iblk m c 3 t)
    | ⟨5, _⟩ => blkZ (iblk m c 0 t) (iblk m c 1 t) (iblk m c 2 t) (iblk m c 3 t)
    | ⟨6, _⟩ => blkY0 (iblk m c 0 t) (iblk m c 1 t) (iblk m c 2 t) (iblk m c 3 t)
  Φ _ := Pipeline.ΦA spec0 c
  q _ := fullShare
  owed _ := 0

/-- The arrays are the contents at the region's entry. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = blkY (iblk m c 0 t) (iblk m c 1 t) (iblk m c 2 t) (iblk m c 3 t) := by dsimp only [dats]
theorem after0_5 (c : Dev nD) (t : Fin cfg0.N) : (dats m 0 c).after 5 t = blkZ (iblk m c 0 t) (iblk m c 1 t) (iblk m c 2 t) (iblk m c 3 t) := by dsimp only [dats]
theorem after0_6 (c : Dev nD) (t : Fin cfg0.N) : (dats m 0 c).after 6 t = blkY0 (iblk m c 0 t) (iblk m c 1 t) (iblk m c 2 t) (iblk m c 3 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- What the body returns at point `t`. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 800000 in
/-- The body at any point turns the former into the latter. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
  iapply (body_run c (grid0.coords t) _ _ _ _ _ _ _ _ _ _ _ _ _ _ _ _ _ _ (iblk m c 0 t) (iblk m c 1 t) (iblk m c 2 t) (iblk m c 3 t) Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [HS0]; · iexact HS0
  isplitl [HS1]; · iexact HS1
  iintro ⟨H0, H1, H2, H3, H4, H5, H6, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

-- the theorem's implicit arguments are found by unifying its conclusion with this one, which takes unfolding plain
-- definitions in a metavariable's type
set_option backward.isDefEq.respectTransparency.types false in
set_option maxHeartbeats 800000 in
/-- Every execution of @main ends, with every array of the region at the contents its proof data name, every other buffer at what the
    host lines leave there, and every semaphore counter at zero. -/
theorem run_main_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The same without the counters. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The argument arrays end unchanged and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Steps

end
-- ==== Proof.Values.lean ====
/- The three blocks the kernel leaves at one grid point, element by element over the extended reals: the error matrix in
   closed form, and the products of it as sums over whole rows and columns. -/
module

public import proofs.«01_k».proof.Proof.Steps

@[expose] public section

set_option maxRecDepth 16384

noncomputable section

namespace Cert.KernelIdeal.Steps

open Idealize.ShloMosaic Cert.KernelIdeal.Gen

/-! ## The codes -/

/-- The signed four-bit code a byte holds in its low half (`p` even) or its high half (`p` odd), as a 32-bit integer. -/
def nibble (b : BitVec 8) (p : ℕ) : BitVec 32 :=
  if p % 2 < 1 then IntOp.shrsi .host (IntOp.shli .host (b.setWidth 32) 28#32) 28#32
  else IntOp.shrsi .host (IntOp.shli .host (b.setWidth 32) 24#32) 28#32

/-- The same code as a number. -/
def code (b : BitVec 8) (p : ℕ) : EReal := FloatOps.sitofp (F := Ideal) .f32 (nibble b p)

/-- The low half of a byte, shifted up and down in eight bits and cut to four, is the number the 32-bit shifts give. -/
theorem low_toInt (b : BitVec 8) :
    (BitVec.setWidth 4 (IntOp.shrsi .vector (IntOp.shli .vector (BitVec.setWidth 8 (BitVec.setWidth 16 b)) 4#8) 4#8)).toInt
      = (IntOp.shrsi .host (IntOp.shli .host (b.setWidth 32) 28#32) 28#32).toInt := by
  have h : ∀ n : Fin 256,
      (BitVec.setWidth 4 (IntOp.shrsi .vector (IntOp.shli .vector (BitVec.setWidth 8 (BitVec.setWidth 16 (BitVec.ofFin (w := 8) n))) 4#8) 4#8)).toInt
        = (IntOp.shrsi .host (IntOp.shli .host ((BitVec.ofFin (w := 8) n).setWidth 32) 28#32) 28#32).toInt := by decide +kernel
  exact h b.toFin

/-- The high half of a byte, shifted down in eight bits and cut to four, is the number the 32-bit shifts give. -/
theorem high_toInt (b : BitVec 8) :
    (BitVec.setWidth 4 (IntOp.shrsi .vector (BitVec.setWidth 8 (BitVec.setWidth 16 b)) 4#8)).toInt
      = (IntOp.shrsi .host (IntOp.shli .host (b.setWidth 32) 24#32) 28#32).toInt := by
  have h : ∀ n : Fin 256,
      (BitVec.setWidth 4 (IntOp.shrsi .vector (BitVec.setWidth 8 (BitVec.setWidth 16 (BitVec.ofFin (w := 8) n))) 4#8)).toInt
        = (IntOp.shrsi .host (IntOp.shli .host ((BitVec.ofFin (w := 8) n).setWidth 32) 24#32) 28#32).toInt := by decide +kernel
  exact h b.toFin

/-- At the extended reals a signed conversion depends on the integer alone. -/
theorem sitofp_congr {n k : ℕ} (φ ψ : FTy) (x : BitVec n) (y : BitVec k) (h : x.toInt = y.toInt) :
    FloatOps.sitofp (F := Ideal) φ x = (FloatOps.sitofp (F := Ideal) ψ y : EReal) := by
  show ((x.toInt : ℝ) : EReal) = ((y.toInt : ℝ) : EReal)
  rw [h]

/-! ## The tiles at an index -/

/-- The transposed weight tile. -/
theorem pay3_apply (w : Vec Ideal S1x256x256 .bf16) (r s : Fin 256) : k0_pay3 w (ix2 r s) = w (ix3 (0 : Fin 1) s r) := by
  pointwise [k0_pay3]

/-- The tile of codes: row `r` comes from byte column `r / 2`, its low half for even `r`. -/
theorem pay4_apply (x : Vec Ideal S1x256x128 .i8) (r s : Fin 256) :
    k0_pay4 x (ix2 r s) = code (x (ix3 (0 : Fin 1) s (⟨r.val / 2, by have := r.isLt; omega⟩ : Fin 128))) r.val := by
  pointwise [k0_pay4]
  unfold code nibble
  split
  · exact sitofp_congr _ _ _ _ (low_toInt _)
  · exact sitofp_congr _ _ _ _ (high_toInt _)

/-- One element of the error matrix: weight column `d` of row `s` less its code times its group's scale. -/
def err (x0 : Vec Ideal S1x256x7168 .bf16) (x1 : Vec Ideal S1x256x3584 .i8) (x2 : Vec Ideal S1x56x256 .f32) (d : Fin 7168) (s : Fin 256) : EReal :=
  x0 (ix3 (0 : Fin 1) s d) - code (x1 (ix3 (0 : Fin 1) s (byteCol (d.val / 2)))) d.val * x2 (ix3 (0 : Fin 1) (grp (d.val / 128)) s)

/-- The tile of trip `k` is rows `256 k` to `256 k + 255` of the error matrix. -/
theorem pay7_apply (x0 : Vec Ideal S1x256x7168 .bf16) (x1 : Vec Ideal S1x256x3584 .i8) (x2 : Vec Ideal S1x56x256 .f32) (k : ℕ) (hk : k < 28) (r s : Fin 256) :
    k0_pay7 (k0_pay3 (wTile x0 k)) (k0_pay4 (cTile x1 k)) (k0_pay5 (wTile x0 k) (cTile x1 k) (sRow x2 (2 * k))) (sRow x2 (2 * k + 1)) (ix2 r s)
      = err x0 x1 x2 (col (256 * k + r.val)) s := by
  have hr := r.isLt
  have e1 : (256 * k + r.val) % 7168 = 256 * k + r.val := Nat.mod_eq_of_lt (by omega)
  have e2 : (256 * k + r.val) / 2 = 128 * k + r.val / 2 := by omega
  have e3 : ∀ b, code b (256 * k + r.val) = code b r.val := fun b => by
    unfold code nibble; rw [show (256 * k + r.val) % 2 = r.val % 2 by omega]
  pointwise [k0_pay7, k0_pay5]
  split
  · rename_i h
    have e4 : (256 * k + r.val) / 128 = 2 * k := by omega
    rw [pay3_apply, pay4_apply]
    unfold err
    simp only [e1, e2, e3, e4]
    rfl
  · rename_i h
    have e4 : (256 * k + r.val) / 128 = 2 * k + 1 := by omega
    have e5 : 128 + (r.val - 128) = r.val := by omega
    simp only [e5]
    rw [pay3_apply, pay4_apply]
    unfold err
    simp only [e1, e2, e3, e4]
    rfl

/-- The buffer the first loop fills is the error matrix. -/
theorem bufE_apply (x0 : Vec Ideal S1x256x7168 .bf16) (x1 : Vec Ideal S1x256x3584 .i8) (x2 : Vec Ideal S1x56x256 .f32) (d : Fin 7168) (s : Fin 256) :
    bufE x0 x1 x2 (ix2 d s) = err x0 x1 x2 d s := by
  have hd := d.isLt
  show tileE x0 x1 x2 (d.val / 256) (ix2 (⟨d.val % 256, Nat.mod_lt _ (by decide)⟩ : Fin 256) s) = _
  have : col (256 * (d.val / 256) + d.val % 256) = d := Fin.ext (by show (256 * (d.val / 256) + d.val % 256) % 7168 = d.val; omega)
  pointwise [tileE, k0_pay8]
  rw [pay7_apply x0 x1 x2 _ (by omega), this]

/-! ## The running sums -/

/-- A sum over 28 tiles of 256 columns is the sum over all 7168. -/
theorem sum_tiles (g : Fin 7168 → EReal) : ∑ k ∈ Finset.range 28, ∑ x : Fin 256, g (col (256 * k + x.val)) = ∑ d, g d := by
  rw [Finset.sum_range (n := 28), ← Fintype.sum_prod_type']
  refine Fintype.sum_equiv (finProdFinEquiv (m := 28) (n := 256)) _ g fun p => congrArg g (Fin.ext ?_)
  have h1 := p.1.isLt
  have h2 := p.2.isLt
  show (256 * p.1.val + p.2.val) % 7168 = p.2.val + 256 * p.1.val
  omega

/-- The vectors `y` times the error matrix, row `d`. -/
def toCols (y : Fin 64 → Fin 256 → EReal) (e : Fin 7168 → Fin 256 → EReal) (r : Fin 64) (d : Fin 7168) : EReal := ∑ s, y r s * e d s
/-- Row vectors `p` times the error matrix, column `s`. -/
def toRows (p : Fin 64 → Fin 7168 → EReal) (e : Fin 7168 → Fin 256 → EReal) (r : Fin 64) (s : Fin 256) : EReal := ∑ d, p r d * e d s

/-- The running sum of the first loop is a sum over the tiles so far. -/
theorem acc1_apply (x0 : Vec Ideal S1x256x7168 .bf16) (x1 : Vec Ideal S1x256x3584 .i8) (x2 : Vec Ideal S1x56x256 .f32) (x3 : Vec Ideal S1x64x7168 .bf16)
    (r : Fin 64) (s : Fin 256) (n : ℕ) (hn : n ≤ 28) : acc1 x0 x1 x2 x3 n (ix2 r s)
      = ∑ k ∈ Finset.range n, ∑ x : Fin 256, x3 (ix3 (0 : Fin 1) r (col (256 * k + x.val))) * err x0 x1 x2 (col (256 * k + x.val)) s := by
  induction n with
  | zero => rw [Finset.range_zero, Finset.sum_empty]; pointwise [acc1, k0_pay6]
  | succ n ih =>
    rw [Finset.sum_range_succ, ← ih (by omega)]
    pointwise [acc1, k0_pay9]
    simp only [pay7_apply x0 x1 x2 n (by omega)]
    rfl

/-- The running sum of the second loop is a sum over the tiles so far. -/
theorem acc2_apply (v : Vec Ideal S64x256 .f32) (e : Vec Ideal S7168x256 .bf16) (r : Fin 64) (s : Fin 256) (n : ℕ) : acc2 v e n (ix2 r s)
      = ∑ k ∈ Finset.range n, ∑ x : Fin 256, (∑ t : Fin 256, v (ix2 r t) * e (ix2 (col (256 * k + x.val)) t)) * e (ix2 (col (256 * k + x.val)) s) := by
  induction n with
  | zero => rw [Finset.range_zero, Finset.sum_empty]; pointwise [acc2, k0_pay11]
  | succ n ih =>
    rw [Finset.sum_range_succ, ← ih]
    pointwise [acc2, k0_pay12, rows]

/-- The third loop keeps the same running sum. -/
theorem acc3_eq (v : Vec Ideal S64x256 .f32) (e : Vec Ideal S7168x256 .bf16) (n : ℕ) : acc3 v e n = acc2 v e n := by
  induction n with
  | zero => rfl
  | succ n ih => show k0_pay14 v (rows e n) (acc3 v e n) = k0_pay12 v (rows e n) (acc2 v e n); rw [ih]; rfl

/-- One power step: the vectors times the error matrix, times the error matrix back. -/
theorem acc2_full (v : Vec Ideal S64x256 .f32) (e : Vec Ideal S7168x256 .bf16) (r : Fin 64) (s : Fin 256) :
    acc2 v e 28 (ix2 r s) = toRows (toCols (fun r s => v (ix2 r s)) fun d s => e (ix2 d s)) (fun d s => e (ix2 d s)) r s := by
  rw [acc2_apply]
  exact sum_tiles fun d => (∑ t : Fin 256, v (ix2 r t) * e (ix2 d t)) * e (ix2 d s)

/-! ## The blocks -/

variable (x0 : Vec Ideal S1x256x7168 .bf16) (x1 : Vec Ideal S1x256x3584 .i8) (x2 : Vec Ideal S1x56x256 .f32) (x3 : Vec Ideal S1x64x7168 .bf16)

/-- The test vectors times the error matrix. -/
def y0 : Fin 64 → Fin 256 → EReal := toRows (fun r d => x3 (ix3 (0 : Fin 1) r d)) (err x0 x1 x2)
/-- The vectors after two power steps. -/
def y2 : Fin 64 → Fin 256 → EReal :=
  toRows (toCols (toRows (toCols (y0 x0 x1 x2 x3) (err x0 x1 x2)) (err x0 x1 x2)) (err x0 x1 x2)) (err x0 x1 x2)

theorem valY0_apply (r : Fin 64) (s : Fin 256) : valY0 x0 x1 x2 x3 (ix2 r s) = y0 x0 x1 x2 x3 r s := by
  unfold valY0
  rw [acc1_apply _ _ _ _ _ _ _ le_rfl]
  exact sum_tiles fun d => x3 (ix3 (0 : Fin 1) r d) * err x0 x1 x2 d s

theorem valY2_apply (r : Fin 64) (s : Fin 256) : valY2 x0 x1 x2 x3 (ix2 r s) = y2 x0 x1 x2 x3 r s := by
  unfold valY2 valY1 y2
  rw [acc3_eq, acc2_full]
  simp only [acc2_full, bufE_apply, valY0_apply]

/-- The first output block: the vectors after two power steps. -/
theorem blkY_apply (r : Fin 64) (s : Fin 256) : blkY x0 x1 x2 x3 (ix3 (0 : Fin 1) r s) = y2 x0 x1 x2 x3 r s := by
  rw [← valY2_apply]; unfold blkY; pointwise [k0_pay1]

/-- The third output block: the test vectors times the error matrix. -/
theorem blkY0_apply (r : Fin 64) (s : Fin 256) : blkY0 x0 x1 x2 x3 (ix3 (0 : Fin 1) r s) = y0 x0 x1 x2 x3 r s := by
  rw [← valY0_apply]; unfold blkY0; pointwise [k0_pay10]

/-- The second output block: those vectors times the error matrix. -/
theorem blkZ_apply (r : Fin 64) (d : Fin 7168) : blkZ x0 x1 x2 x3 (ix3 (0 : Fin 1) r d) = toCols (y2 x0 x1 x2 x3) (err x0 x1 x2) r d := by
  have hd := d.isLt
  have h : col (256 * (d.val / 256) + d.val % 256) = d := Fin.ext (by show (256 * (d.val / 256) + d.val % 256) % 7168 = d.val; omega)
  show k0_pay2 (valY2 x0 x1 x2 x3) (rows (bufE x0 x1 x2) (d.val / 256)) (ix3 (0 : Fin 1) r (⟨d.val % 256, Nat.mod_lt _ (by decide)⟩ : Fin 256)) = _
  pointwise [k0_pay2, rows]
  simp only [h, valY2_apply, bufE_apply]
  rfl

/-! ## All batches, as functions of the four arguments -/

section
variable (a0 : Vec Ideal S48x256x7168 .bf16) (a1 : Vec Ideal S48x256x3584 .i8) (a2 : Vec Ideal S48x256x56 .f32) (a3 : Vec Ideal S48x7168x64 .bf16)

/-- The error matrix of batch `b`. -/
def errA (b : Fin 48) (d : Fin 7168) (s : Fin 256) : EReal :=
  a0 (ix3 b s d) - code (a1 (ix3 b s (byteCol (d.val / 2)))) d.val * a2 (ix3 b s (grp (d.val / 128)))
/-- The test vectors of batch `b` times its error matrix. -/
def y0A (b : Fin 48) : Fin 64 → Fin 256 → EReal := toRows (fun r d => a3 (ix3 b d r)) (errA a0 a1 a2 b)
/-- One power step of batch `b` from the vectors `y`. -/
def stepA (b : Fin 48) (y : Fin 64 → Fin 256 → EReal) : Fin 64 → Fin 256 → EReal := toRows (toCols y (errA a0 a1 a2 b)) (errA a0 a1 a2 b)
/-- The vectors of batch `b` after two power steps. -/
def y2A (b : Fin 48) : Fin 64 → Fin 256 → EReal := stepA a0 a1 a2 b (stepA a0 a1 a2 b (y0A a0 a1 a2 a3 b))
/-- Those vectors times the error matrix of batch `b`. -/
def zA (b : Fin 48) : Fin 64 → Fin 7168 → EReal := toCols (y2A a0 a1 a2 a3 b) (errA a0 a1 a2 b)

/-- The first result. -/
def resY : Vec Ideal S48x256x64 .f32 := fun i => y2A a0 a1 a2 a3 (i 0) (i 2) (i 1)
/-- The second result. -/
def resZ : Vec Ideal S48x7168x64 .f32 := fun i => zA a0 a1 a2 a3 (i 0) (i 2) (i 1)
/-- The third result. -/
def resY0 : Vec Ideal S48x256x64 .f32 := fun i => y0A a0 a1 a2 a3 (i 0) (i 2) (i 1)
end

end Cert.KernelIdeal.Steps

end
-- ==== Proof.Arrays.lean ====
/- The arrays at the end of the run: each of the three results as a function of the four arguments. -/
module

public import proofs.«01_k».proof.Proof.Values
public import proofs.«01_k».proof.Proof.Run
public import Idealize.ShloMosaic.Lib.Pipeline.ValueKit

@[expose] public section

set_option maxRecDepth 16384

noncomputable section

namespace Cert.KernelIdeal.Steps

open Idealize.ShloMosaic Idealize.ShloMosaic.TcCoe Cert.KernelIdeal.Gen Idealize.SL.Sem

variable (m : (ℓ : Loc nD τ sig) → Buf (Elt Ideal) ℓ) (ρ : Dev nD → PrngReg)

/-! ## The arrays the region is entered with -/

/-- The scales, transposed. -/
theorem V_main_v0 (c : Dev nD) : V m c main_v0
    = transpose S48x56x256 [0, 2, 1] (m ((c : Thread nD τ).loc main_arg2)) transposes_S48x256x56_S48x56x256_0_2_1 := by
  show StableHlo.after hostOps0 (fun b => m (c, b)) (Proc.devRef .tc _) = _
  after_results_simp <;> rfl

/-- The test vectors, transposed. -/
theorem V_main_v1 (c : Dev nD) : V m c main_v1
    = transpose S48x64x7168 [0, 2, 1] (m ((c : Thread nD τ).loc main_arg3)) transposes_S48x7168x64_S48x64x7168_0_2_1 := by
  show StableHlo.after hostOps0 (fun b => m (c, b)) (Proc.devRef .tc _) = _
  after_results_simp <;> rfl

/-- Every window's block at point `t` is block `t` along the first axis. -/
theorem idx : ∀ t : Fin cfg0.N, win0_0.index t = ![t.val, 0, 0] ∧ win0_1.index t = ![t.val, 0, 0] ∧ win0_2.index t = ![t.val, 0, 0]
    ∧ win0_3.index t = ![t.val, 0, 0] ∧ win0_4.index t = ![t.val, 0, 0] ∧ win0_5.index t = ![t.val, 0, 0] ∧ win0_6.index t = ![t.val, 0, 0] := by
  decide +kernel

/-- A grid point as a batch. -/
abbrev bat (t : Fin cfg0.N) : Fin 48 := ⟨t.val, t.isLt.trans_eq N_0⟩

theorem iblk0_apply (c : Dev nD) (t : Fin cfg0.N) (s : Fin 256) (d : Fin 7168) :
    (iblk m c 0 t : Vec Ideal S1x256x7168 .bf16) (ix3 (0 : Fin 1) s d) = (m ((c : Thread nD τ).loc main_arg0) : Vec Ideal S48x256x7168 .bf16) (ix3 (bat t) s d) := by
  blk_ext! [iblk, V, idx t]

theorem iblk1_apply (c : Dev nD) (t : Fin cfg0.N) (s : Fin 256) (d : Fin 3584) :
    (iblk m c 1 t : Vec Ideal S1x256x3584 .i8) (ix3 (0 : Fin 1) s d) = (m ((c : Thread nD τ).loc main_arg1) : Vec Ideal S48x256x3584 .i8) (ix3 (bat t) s d) := by
  blk_ext! [iblk, V, idx t]

theorem iblk2_apply (c : Dev nD) (t : Fin cfg0.N) (g : Fin 56) (s : Fin 256) :
    (iblk m c 2 t : Vec Ideal S1x56x256 .f32) (ix3 (0 : Fin 1) g s) = (m ((c : Thread nD τ).loc main_arg2) : Vec Ideal S48x256x56 .f32) (ix3 (bat t) s g) := by
  have e : (iblk m c 2 t : Vec Ideal S1x56x256 .f32) (ix3 (0 : Fin 1) g s) = (V m c main_v0 : Vec Ideal S48x56x256 .f32) (ix3 (bat t) g s) := by
    blk_ext [iblk, idx t]
  rw [e, V_main_v0]
  pointwise
  rfl

theorem iblk3_apply (c : Dev nD) (t : Fin cfg0.N) (r : Fin 64) (d : Fin 7168) :
    (iblk m c 3 t : Vec Ideal S1x64x7168 .bf16) (ix3 (0 : Fin 1) r d) = (m ((c : Thread nD τ).loc main_arg3) : Vec Ideal S48x7168x64 .bf16) (ix3 (bat t) d r) := by
  have e : (iblk m c 3 t : Vec Ideal S1x64x7168 .bf16) (ix3 (0 : Fin 1) r d) = (V m c main_v1 : Vec Ideal S48x64x7168 .bf16) (ix3 (bat t) r d) := by
    blk_ext [iblk, idx t]
  rw [e, V_main_v1]
  pointwise
  rfl

/-! ## The arrays the region leaves -/

/-- The arguments as launched. -/
abbrev arg0 (c : Dev nD) : Vec Ideal S48x256x7168 .bf16 := m ((c : Thread nD τ).loc main_arg0)
abbrev arg1 (c : Dev nD) : Vec Ideal S48x256x3584 .i8 := m ((c : Thread nD τ).loc main_arg1)
abbrev arg2 (c : Dev nD) : Vec Ideal S48x256x56 .f32 := m ((c : Thread nD τ).loc main_arg2)
abbrev arg3 (c : Dev nD) : Vec Ideal S48x7168x64 .bf16 := m ((c : Thread nD τ).loc main_arg3)

/-- The error matrix of a grid point's blocks is its batch's. -/
theorem err_iblk (c : Dev nD) (t : Fin cfg0.N) :
    err (iblk m c 0 t) (iblk m c 1 t) (iblk m c 2 t) = errA (arg0 m c) (arg1 m c) (arg2 m c) (bat t) := by
  funext d s
  unfold err errA
  rw [iblk0_apply, iblk1_apply, iblk2_apply]

/-- So is the product with the test vectors. -/
theorem y0_iblk (c : Dev nD) (t : Fin cfg0.N) :
    y0 (iblk m c 0 t) (iblk m c 1 t) (iblk m c 2 t) (iblk m c 3 t) = y0A (arg0 m c) (arg1 m c) (arg2 m c) (arg3 m c) (bat t) := by
  unfold y0 y0A
  rw [err_iblk]
  simp only [iblk3_apply]

/-- So are the vectors after two power steps. -/
theorem y2_iblk (c : Dev nD) (t : Fin cfg0.N) :
    y2 (iblk m c 0 t) (iblk m c 1 t) (iblk m c 2 t) (iblk m c 3 t) = y2A (arg0 m c) (arg1 m c) (arg2 m c) (arg3 m c) (bat t) := by
  unfold y2 y2A stepA
  rw [err_iblk, y0_iblk]

/-- The array of the first result before the last transposition. -/
theorem arr4 (c : Dev nD) : (dats m 0 c).arrAt 4 cfg0.N
    = (fun i => y2A (arg0 m c) (arg1 m c) (arg2 m c) (arg3 m c) (i 0) (i 1) (i 2) : Vec Ideal S48x64x256 .f32) := by
  refine (dats m 0 c).arrAt_eq_of_covers 4 _ (by decide +kernel) fun t hf y => ?_
  blk_simp
  rw [after0_4]
  have h0 : (win0_4.blk t).view.emb y = ix3 (bat t) (y 1) (y 2) := by blk_ext [idx t]
  rw [h0]
  have hy : y = ix3 (0 : Fin 1) (y 1) (y 2) := by blk_ext
  rw [hy]
  exact (blkY_apply _ _ _ _ _ _).trans (congrFun (congrFun (y2_iblk m c t) _) _)

/-- The array of the second result before the last transposition. -/
theorem arr5 (c : Dev nD) : (dats m 0 c).arrAt 5 cfg0.N
    = (fun i => zA (arg0 m c) (arg1 m c) (arg2 m c) (arg3 m c) (i 0) (i 1) (i 2) : Vec Ideal S48x64x7168 .f32) := by
  refine (dats m 0 c).arrAt_eq_of_covers 5 _ (by decide +kernel) fun t hf y => ?_
  blk_simp
  rw [after0_5]
  have h0 : (win0_5.blk t).view.emb y = ix3 (bat t) (y 1) (y 2) := by blk_ext [idx t]
  rw [h0]
  have hy : y = ix3 (0 : Fin 1) (y 1) (y 2) := by blk_ext
  rw [hy]
  refine (blkZ_apply _ _ _ _ _ _).trans ?_
  rw [y2_iblk, err_iblk]
  rfl

/-- The array of the third result before the last transposition. -/
theorem arr6 (c : Dev nD) : (dats m 0 c).arrAt 6 cfg0.N
    = (fun i => y0A (arg0 m c) (arg1 m c) (arg2 m c) (arg3 m c) (i 0) (i 1) (i 2) : Vec Ideal S48x64x256 .f32) := by
  refine (dats m 0 c).arrAt_eq_of_covers 6 _ (by decide +kernel) fun t hf y => ?_
  blk_simp
  rw [after0_6]
  have h0 : (win0_6.blk t).view.emb y = ix3 (bat t) (y 1) (y 2) := by blk_ext [idx t]
  rw [h0]
  have hy : y = ix3 (0 : Fin 1) (y 1) (y 2) := by blk_ext
  rw [hy]
  exact (blkY0_apply _ _ _ _ _ _).trans (congrFun (congrFun (y0_iblk m c t) _) _)

/-! ## The results -/

/-- The first result at the end of the run. -/
theorem end_main_v3 (c : Dev nD) : Pipeline.afterTail₀ cfgs (dats m) 0 (V0 m) [hostOps1] c main_v3
    = resY (arg0 m c) (arg1 m c) (arg2 m c) (arg3 m c) := by
  have e : Pipeline.withArrays cfg0.spec c (V0 m c) (fun w => (dats m 0 c).arrAt w cfg0.N) (Proc.devRef .tc main_v2_0) = (dats m 0 c).arrAt 4 cfg0.N :=
    Pipeline.withArrays_arr cfg0.spec winFacts0.arr_inj c (V0 m c) (fun w => (dats m 0 c).arrAt w cfg0.N) 4
  show StableHlo.after hostOps1 (Pipeline.withArrays cfg0.spec c (V0 m c) fun w => (dats m 0 c).arrAt w cfg0.N) (Proc.devRef .tc main_v3) = _
  after_results_simp
  rw [e, arr4]
  funext i
  pointwise [resY]

/-- The second result at the end of the run. -/
theorem end_main_v4 (c : Dev nD) : Pipeline.afterTail₀ cfgs (dats m) 0 (V0 m) [hostOps1] c main_v4
    = resZ (arg0 m c) (arg1 m c) (arg2 m c) (arg3 m c) := by
  have e : Pipeline.withArrays cfg0.spec c (V0 m c) (fun w => (dats m 0 c).arrAt w cfg0.N) (Proc.devRef .tc main_v2_1) = (dats m 0 c).arrAt 5 cfg0.N :=
    Pipeline.withArrays_arr cfg0.spec winFacts0.arr_inj c (V0 m c) (fun w => (dats m 0 c).arrAt w cfg0.N) 5
  show StableHlo.after hostOps1 (Pipeline.withArrays cfg0.spec c (V0 m c) fun w => (dats m 0 c).arrAt w cfg0.N) (Proc.devRef .tc main_v4) = _
  after_results_simp
  rw [e, arr5]
  funext i
  pointwise [resZ]

/-- The third result at the end of the run. -/
theorem end_main_v5 (c : Dev nD) : Pipeline.afterTail₀ cfgs (dats m) 0 (V0 m) [hostOps1] c main_v5
    = resY0 (arg0 m c) (arg1 m c) (arg2 m c) (arg3 m c) := by
  have e : Pipeline.withArrays cfg0.spec c (V0 m c) (fun w => (dats m 0 c).arrAt w cfg0.N) (Proc.devRef .tc main_v2_2) = (dats m 0 c).arrAt 6 cfg0.N :=
    Pipeline.withArrays_arr cfg0.spec winFacts0.arr_inj c (V0 m c) (fun w => (dats m 0 c).arrAt w cfg0.N) 6
  show StableHlo.after hostOps1 (Pipeline.withArrays cfg0.spec c (V0 m c) fun w => (dats m 0 c).arrAt w cfg0.N) (Proc.devRef .tc main_v5) = _
  after_results_simp
  rw [e, arr6]
  funext i
  pointwise [resY0]

/-- The run of the kernel: each result ends at its function of the arguments, and the arguments end unchanged. -/
theorem run_values : θ_run defs (onTc (τ := τ) (main (F := Ideal))) ⟨m, fun _ => 0, ρ⟩ (fun r => ∀ c : Dev nD,
      r.2.mem ((c.tc : Thread nD τ).loc main_v3) = resY (arg0 m c) (arg1 m c) (arg2 m c) (arg3 m c)
      ∧ r.2.mem ((c.tc : Thread nD τ).loc main_v4) = resZ (arg0 m c) (arg1 m c) (arg2 m c) (arg3 m c)
      ∧ r.2.mem ((c.tc : Thread nD τ).loc main_v5) = resY0 (arg0 m c) (arg1 m c) (arg2 m c) (arg3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h.1 c).2 main_v3 (Pipeline.mem_restRefs_of main_v3 (by decide) (by decide))).trans (end_main_v3 m c),
      ((h.1 c).2 main_v4 (Pipeline.mem_restRefs_of main_v4 (by decide) (by decide))).trans (end_main_v4 m c),
      ((h.1 c).2 main_v5 (Pipeline.mem_restRefs_of main_v5 (by decide) (by decide))).trans (end_main_v5 m c), h.2 c⟩)
    (θ_run_and (run_main m ρ) (unchanged m ρ))

end Cert.KernelIdeal.Steps

end
-- ==== Proof.Ref.lean ====
/- The reference's three results as the same functions of the four arguments. -/
module

public import proofs.«01_k».proof.Proof.Values
public import proofs.«01_k».proof.Proof.Gen.ReferenceIdeal.Run
public import proofs.«01_k».proof.Proof.Gen.ReferenceIdeal.Read
public import Idealize.ShloMosaic.Lib.Pointwise
public import Idealize.ShloMosaic.Lib.Claim

@[expose] public section

set_option maxRecDepth 16384

noncomputable section

namespace Cert.ReferenceIdeal.Meet

open Idealize.ShloMosaic Idealize.ShloMosaic.TcCoe Idealize.SL.Sem
open Cert.ReferenceIdeal Cert.ReferenceIdeal.Gen Cert.ReferenceIdeal.Read Cert.ReferenceIdeal.Value
open Cert.KernelIdeal.Steps (nibble code byteCol grp errA y0A stepA y2A zA toRows toCols resY resZ resY0)

variable (x0 : Vec Ideal S48x256x7168 .bf16) (x1 : Vec Ideal S48x256x3584 .i8) (x2 : Vec Ideal S48x256x56 .f32) (x3 : Vec Ideal S48x7168x64 .bf16)

/-- The unpacked codes at an index: column `j` of the pair of byte `k` is its low half for `j = 0`, its high half for `j = 1`. -/
theorem v11_apply (b : Fin 48) (s : Fin 256) (k : Fin 3584) (j : Fin 2) :
    val_main_v11 (F := Ideal) x1 (ix4 b s k j) = nibble (x1 (ix3 b s k)) j.val := by
  pointwise [val_main_v11, val_main_v9, val_main_v10, val_main_v8, val_main_v4, val_main_v6, val_main_v2, val_main_v0, val_main_v1, val_main_v3, val_main_v5, val_main_v7, val_main_c, val_main_c_0, val_main_c_1, val_main_c_2]
  have hj := j.isLt
  unfold nibble
  rw [show j.val % 2 = j.val by omega]
  rfl

/-- The error matrix of the reference. -/
theorem v21_apply (b : Fin 48) (s : Fin 256) (d : Fin 7168) :
    val_main_v21 (F := Ideal) x0 x1 x2 (ix3 b s d) = errA x0 x1 x2 b d s := by
  pointwise [val_main_v21, val_main_v20, val_main_v19, val_main_v18, val_main_v17, val_main_v16, val_main_v15, val_main_v14, val_main_v13, val_main_v12]
  have hd := d.isLt
  rw [v11_apply]
  have e1 : (⟨d.val / 128 * 64 + d.val % 128 / 2, by omega⟩ : Fin 3584) = byteCol (d.val / 2) :=
    Fin.ext (by show d.val / 128 * 64 + d.val % 128 / 2 = d.val / 2 % 3584; omega)
  have e2 : (⟨d.val / 128, by omega⟩ : Fin 56) = grp (d.val / 128) := Fin.ext (by show d.val / 128 = d.val / 128 % 56; omega)
  rw [e1, e2]
  unfold errA code nibble
  rw [show d.val % 128 % 2 % 2 = d.val % 2 by omega]

/-- The test vectors times the error matrix. -/
theorem v22_apply (b : Fin 48) (s : Fin 256) (r : Fin 64) :
    val_main_v22 (F := Ideal) x0 x1 x2 x3 (ix3 b s r) = y0A x0 x1 x2 x3 b r s := by
  pointwise [val_main_v22]
  simp only [v21_apply]
  exact Finset.sum_congr rfl fun d _ => mul_comm _ _

/-- Those vectors times the error matrix. -/
theorem v24_apply (b : Fin 48) (d : Fin 7168) (r : Fin 64) :
    val_main_v24 (F := Ideal) x0 x1 x2 x3 (ix3 b d r) = toCols (y0A x0 x1 x2 x3 b) (errA x0 x1 x2 b) r d := by
  pointwise [val_main_v24, val_main_v23]
  simp only [v21_apply, v22_apply]
  exact Finset.sum_congr rfl fun s _ => mul_comm _ _

/-- The vectors after one power step. -/
theorem v26_apply (b : Fin 48) (s : Fin 256) (r : Fin 64) :
    val_main_v26 (F := Ideal) x0 x1 x2 x3 (ix3 b s r) = stepA x0 x1 x2 b (y0A x0 x1 x2 x3 b) r s := by
  pointwise [val_main_v26, val_main_v25]
  simp only [v21_apply, v24_apply]
  exact Finset.sum_congr rfl fun d _ => mul_comm _ _

/-- Those vectors times the error matrix. -/
theorem v28_apply (b : Fin 48) (d : Fin 7168) (r : Fin 64) :
    val_main_v28 (F := Ideal) x0 x1 x2 x3 (ix3 b d r) = toCols (stepA x0 x1 x2 b (y0A x0 x1 x2 x3 b)) (errA x0 x1 x2 b) r d := by
  pointwise [val_main_v28, val_main_v27]
  simp only [v21_apply, v26_apply]
  exact Finset.sum_congr rfl fun s _ => mul_comm _ _

/-- The vectors after two power steps. -/
theorem v30_apply (b : Fin 48) (s : Fin 256) (r : Fin 64) :
    val_main_v30 (F := Ideal) x0 x1 x2 x3 (ix3 b s r) = y2A x0 x1 x2 x3 b r s := by
  pointwise [val_main_v30, val_main_v29]
  simp only [v21_apply, v28_apply]
  exact Finset.sum_congr rfl fun d _ => mul_comm _ _

/-- Those vectors times the error matrix. -/
theorem v32_apply (b : Fin 48) (d : Fin 7168) (r : Fin 64) :
    val_main_v32 (F := Ideal) x0 x1 x2 x3 (ix3 b d r) = zA x0 x1 x2 x3 b r d := by
  pointwise [val_main_v32, val_main_v31]
  simp only [v21_apply, v30_apply]
  exact Finset.sum_congr rfl fun s _ => mul_comm _ _

/-- The first result. -/
theorem v30_eq : val_main_v30 (F := Ideal) x0 x1 x2 x3 = resY x0 x1 x2 x3 := by
  funext i; idx_vars i; exact v30_apply x0 x1 x2 x3 _ _ _

/-- The second result. -/
theorem v32_eq : val_main_v32 (F := Ideal) x0 x1 x2 x3 = resZ x0 x1 x2 x3 := by
  funext i; idx_vars i; exact v32_apply x0 x1 x2 x3 _ _ _

/-- The third result. -/
theorem v22_eq : val_main_v22 (F := Ideal) x0 x1 x2 x3 = resY0 x0 x1 x2 x3 := by
  funext i; idx_vars i; exact v22_apply x0 x1 x2 x3 _ _ _

variable (m : (ℓ : Loc nD τ sig) → Buf (Elt Ideal) ℓ) (ρ : Dev nD → PrngReg)

/-- The arguments as launched. -/
abbrev arg0 (c : Dev nD) : Vec Ideal S48x256x7168 .bf16 := m ((c : Thread nD τ).loc main_arg0)
abbrev arg1 (c : Dev nD) : Vec Ideal S48x256x3584 .i8 := m ((c : Thread nD τ).loc main_arg1)
abbrev arg2 (c : Dev nD) : Vec Ideal S48x256x56 .f32 := m ((c : Thread nD τ).loc main_arg2)
abbrev arg3 (c : Dev nD) : Vec Ideal S48x7168x64 .bf16 := m ((c : Thread nD τ).loc main_arg3)

/-- The run of the reference: each result ends at its function of the arguments, and the arguments end unchanged. -/
theorem run_values : θ_run defs (onTc (τ := τ) (main (F := Ideal))) ⟨m, fun _ => 0, ρ⟩ (fun r => ∀ c : Dev nD,
      r.2.mem ((c.tc : Thread nD τ).loc main_v30) = resY (arg0 m c) (arg1 m c) (arg2 m c) (arg3 m c)
      ∧ r.2.mem ((c.tc : Thread nD τ).loc main_v32) = resZ (arg0 m c) (arg1 m c) (arg2 m c) (arg3 m c)
      ∧ r.2.mem ((c.tc : Thread nD τ).loc main_v22) = resY0 (arg0 m c) (arg1 m c) (arg2 m c) (arg3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c).1.trans ((val_main_v30_eq m c).trans (v30_eq _ _ _ _)),
      (h c).2.1.trans ((val_main_v32_eq m c).trans (v32_eq _ _ _ _)),
      (h c).2.2.1.trans ((val_main_v22_eq _ _ _ _).trans (v22_eq _ _ _ _)), (h c).2.2.2⟩)
    (run m ρ)

end Cert.ReferenceIdeal.Meet

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Run
public import proofs.«01_k».proof.Proof.Arrays
public import proofs.«01_k».proof.Proof.Ref
public import Idealize.ShloMosaic.Lib.Quiescent
public import Idealize.ShloMosaic.Adequacy
public import Idealize.ShloMosaic.Init

@[expose] public section

set_option maxRecDepth 16384

noncomputable section

namespace Cert.Proof

open Idealize.ShloMosaic Idealize.SL.Sem
open Cert.KernelIdeal.Steps (resY resZ resY0)

section SameText

variable {F : FTy → Type} [FloatOps F]

/-- The kernel and its ideal form are one text: their bodies are equal, label by label. -/
theorem defs₀_eq : @Cert.Kernel.defs₀ F _ _ = @Cert.KernelIdeal.defs₀ F _ _ := by
  unfold Cert.Kernel.defs₀ Cert.KernelIdeal.defs₀
  refine congrArg Defs.onTc ?_
  funext l a
  match l, a with
  | 0, a => rfl

/-- So their whole definitions, pipelines included, are equal. -/
theorem defs_eq : @Cert.Kernel.defs F _ _ = @Cert.KernelIdeal.defs F _ _ := congrArg (Pipeline.defs _) defs₀_eq

end SameText

/-- The kernel on machine words runs from any memory, leaves its arguments unchanged, and ends with every counter at zero. -/
theorem kernelFrame : Cert.quiescent_Kernel (hKernel := Cert.Kernel.Gen.facts) := fun m ρ _ => by
  rw [defs_eq]
  exact Cert.KernelIdeal.Steps.frame (F := Bits) m ρ

/-- The same of the kernel over the extended reals. -/
theorem idealFrame : Cert.quiescent_KernelIdeal (hKernelIdeal := Cert.KernelIdeal.Gen.facts) :=
  fun m ρ _ => Cert.KernelIdeal.Steps.frame (F := Ideal) m ρ

/-- The same of the reference, which declares no semaphore at all. -/
theorem refFrame : Cert.quiescent_ReferenceIdeal (hReferenceIdeal := Cert.ReferenceIdeal.Gen.facts) := fun m ρ _ =>
  (θ_run _ _ _).mono (fun r h => ⟨fun c => (h c).2.2.2, sem_eq_zero_of_no_sems (by decide) r.2⟩)
    (Cert.ReferenceIdeal.Meet.run_values m ρ)

/-- From memories that agree on the arguments, the kernel and the reference over the extended reals both run and end
    with the same three results. -/
theorem algebraic : Cert.algebraic_KernelIdeal_ReferenceIdeal (hKernelIdeal := Cert.KernelIdeal.Gen.facts)
    (hReferenceIdeal := Cert.ReferenceIdeal.Gen.facts) := by
  intro m g m' g' _ hm
  refine ⟨fun c => resY (Cert.KernelIdeal.Steps.arg0 m c) (Cert.KernelIdeal.Steps.arg1 m c) (Cert.KernelIdeal.Steps.arg2 m c) (Cert.KernelIdeal.Steps.arg3 m c),
    fun c => resZ (Cert.KernelIdeal.Steps.arg0 m c) (Cert.KernelIdeal.Steps.arg1 m c) (Cert.KernelIdeal.Steps.arg2 m c) (Cert.KernelIdeal.Steps.arg3 m c),
    fun c => resY0 (Cert.KernelIdeal.Steps.arg0 m c) (Cert.KernelIdeal.Steps.arg1 m c) (Cert.KernelIdeal.Steps.arg2 m c) (Cert.KernelIdeal.Steps.arg3 m c),
    Cert.KernelIdeal.Steps.run_values m g, ?_⟩
  refine (θ_run _ _ _).mono (fun r h c => ?_) (Cert.ReferenceIdeal.Meet.run_values m' g')
  obtain ⟨h0, h1, h2, h3⟩ := hm c
  have hc := h c
  have e0 : Cert.ReferenceIdeal.Meet.arg0 m' c = Cert.KernelIdeal.Steps.arg0 m c := h0
  have e1 : Cert.ReferenceIdeal.Meet.arg1 m' c = Cert.KernelIdeal.Steps.arg1 m c := h1
  have e2 : Cert.ReferenceIdeal.Meet.arg2 m' c = Cert.KernelIdeal.Steps.arg2 m c := h2
  have e3 : Cert.ReferenceIdeal.Meet.arg3 m' c = Cert.KernelIdeal.Steps.arg3 m c := h3
  rw [e0, e1, e2, e3] at hc
  exact hc

/-- Every claim of the certificate. -/
theorem claim : Cert.Claim :=
  ⟨Cert.Kernel.Gen.facts, Cert.KernelIdeal.Gen.facts, Cert.ReferenceIdeal.Gen.facts, kernelFrame, idealFrame, refFrame,
    trivial, algebraic⟩

end Cert.Proof

end
